-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x8192x512 : Shape := ⟨3, ![8, 8192, 512]⟩
abbrev S8x8192x256 : Shape := ⟨3, ![8, 8192, 256]⟩
abbrev S8x128x512 : Shape := ⟨3, ![8, 128, 512]⟩
abbrev S128 : Shape := ⟨1, ![128]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x8192x256 : S_.BroadcastsInDim S8x8192x256 (![] : Fin 0 → Fin S8x8192x256.rank)
  reducesTo_S8x8192x256_S_d0_1_2 : S8x8192x256.ReducesTo [0, 1, 2] S_

variable [Facts]

def fn_part1 {F : FTy → Type} [FloatOps F] (main_arg8 : FVec F S8x8192x256 .f32) (main_v13 : IVec S_ 1) (main_v16 : IVec S8x8192x512 1) : IVec S_ 1 :=
  let main_c_5 : IVec S_ 1 := constantI S_ 1 1#1
  let main_v17 : IVec S_ 1 := (fun x v => Host.reduce IntOp.andi x v reducesTo_S8x8192x512_S_d0_1_2 h_S_) main_v16 main_c_5
  let main_v18 : IVec S_ 1 := andi main_v13 main_v17
  let main_v19 : FVec F S8x8192x256 .f32 := Host.absf main_arg8
  let main_cst_6 : FVec F S_ .f32 := constant S_ .f32 0x7F800000#32
  let main_v20 : FVec F S8x8192x256 .f32 := broadcastInDim S8x8192x256 ![] bcast_S_S8x8192x256 main_cst_6
  let main_v21 : IVec S8x8192x256 1 := cmpf .olt main_v19 main_v20
  let main_c_7 : IVec S_ 1 := constantI S_ 1 1#1
  let main_v22 : IVec S_ 1 := (fun x v => Host.reduce IntOp.andi x v reducesTo_S8x8192x256_S_d0_1_2 h_S_) main_v21 main_c_7
  let main_v23 : IVec S_ 1 := andi main_v18 main_v22
  main_v23

def fn {F : FTy → Type} [FloatOps F] (main_arg0 : FVec F S8x8192x512 .bf16) (main_arg1 : FVec F S8x8192x512 .bf16) (main_arg2 : FVec F S8x8192x512 .bf16) (main_arg3 : FVec F S8x8192x512 .bf16) (main_arg4 : FVec F S8x8192x512 .bf16) (main_arg5 : FVec F S8x8192x512 .bf16) (main_arg6 : FVec F S8x8192x512 .bf16) (main_arg7 : FVec F S8x8192x512 .bf16) (main_arg8 : FVec F S8x8192x256 .f32) (main_arg9 : FVec F S8x128x512 .f32) (main_arg10 : FVec F S128 .f32) : IVec S_ 1 :=
  let main_v0 : FVec F S8x8192x512 .bf16 := Host.absf main_arg1
  let main_cst : FVec F S_ .bf16 := constant S_ .bf16 0x7F80#16
  let main_v1 : FVec F S8x8192x512 .bf16 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x512 .bf16 := Host.absf main_arg2
  let main_cst_0 : FVec F S_ .bf16 := constant S_ .bf16 0x7F80#16
  let main_v5 : FVec F S8x8192x512 .bf16 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .bf16 := Host.absf main_arg3
  let main_cst_2 : FVec F S_ .bf16 := constant S_ .bf16 0x7F80#16
  let main_v10 : FVec F S8x8192x512 .bf16 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S8x8192x512 .bf16 := Host.absf main_arg4
  let main_cst_4 : FVec F S_ .bf16 := constant S_ .bf16 0x7F80#16
  let main_v15 : FVec F S8x8192x512 .bf16 := broadcastInDim S8x8192x512 ![] bcast_S_S8x8192x512 main_cst_4
  let main_v16 : IVec S8x8192x512 1 := cmpf .olt main_v14 main_v15
  fn_part1 (F := F) main_arg8 main_v13 main_v16
-- ==== Kernel.lean ====
abbrev S8x8192x512 : Shape := ⟨3, ![8, 8192, 512]⟩
abbrev S8x8192x256 : Shape := ⟨3, ![8, 8192, 256]⟩
abbrev S8x128x512 : Shape := ⟨3, ![8, 128, 512]⟩
abbrev S128 : Shape := ⟨1, ![128]⟩
abbrev S8x64x2x512 : Shape := ⟨4, ![8, 64, 2, 512]⟩
abbrev S1x128 : Shape := ⟨2, ![1, 128]⟩
abbrev S8x128x256 : Shape := ⟨3, ![8, 128, 256]⟩
abbrev S8x1x2x512 : Shape := ⟨4, ![8, 1, 2, 512]⟩
abbrev S8x2x256x256 : Shape := ⟨4, ![8, 2, 256, 256]⟩
abbrev S64x256 : Shape := ⟨2, ![64, 256]⟩
abbrev S256x256 : Shape := ⟨2, ![256, 256]⟩
abbrev S256x512 : Shape := ⟨2, ![256, 512]⟩
abbrev S1x64x512 : Shape := ⟨3, ![1, 64, 512]⟩
abbrev S64x512 : Shape := ⟨2, ![64, 512]⟩
abbrev S128x512 : Shape := ⟨2, ![128, 512]⟩
abbrev S128x256 : Shape := ⟨2, ![128, 256]⟩
abbrev S1x64x256 : Shape := ⟨3, ![1, 64, 256]⟩
abbrev S1x1x256x256 : Shape := ⟨4, ![1, 1, 256, 256]⟩
abbrev S1x1x1x512 : Shape := ⟨4, ![1, 1, 1, 512]⟩
abbrev S1x512 : Shape := ⟨2, ![1, 512]⟩
abbrev S1x256 : Shape := ⟨2, ![1, 256]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 14
  | .vmem => 24
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S8x8192x512, .bf16⟩
  | .hbm, ⟨3, _⟩ => ⟨S8x8192x512, .bf16⟩
  | .hbm, ⟨4, _⟩ => ⟨S8x8192x512, .bf16⟩
  | .hbm, ⟨5, _⟩ => ⟨S8x8192x512, .bf16⟩
  | .hbm, ⟨6, _⟩ => ⟨S8x8192x512, .bf16⟩
  | .hbm, ⟨7, _⟩ => ⟨S8x8192x512, .bf16⟩
  | .hbm, ⟨8, _⟩ => ⟨S8x8192x256, .f32⟩
  | .hbm, ⟨9, _⟩ => ⟨S8x128x512, .f32⟩
  | .hbm, ⟨10, _⟩ => ⟨S128, .f32⟩
  | .hbm, ⟨11, _⟩ => ⟨S8x64x2x512, .f32⟩
  | .hbm, ⟨12, _⟩ => ⟨S1x128, .f32⟩
  | .hbm, ⟨13, _⟩ => ⟨S8x8192x512, .bf16⟩
  | .local _ .vmem, ⟨0, _⟩ => ⟨S8x128x512, .bf16⟩
  | .local _ .vmem, ⟨1, _⟩ => ⟨S8x128x512, .bf16⟩
  | .local _ .vmem, ⟨2, _⟩ => ⟨S8x128x512, .bf16⟩
  | .local _ .vmem, ⟨3, _⟩ => ⟨S8x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S8x128x512, .bf16⟩
  | .local _ .vmem, ⟨15, _⟩ => ⟨S8x128x512, .bf16⟩
  | .local _ .vmem, ⟨16, _⟩ => ⟨S8x128x256, .f32⟩
  | .local _ .vmem, ⟨17, _⟩ => ⟨S8x128x256, .f32⟩
  | .local _ .vmem, ⟨18, _⟩ => ⟨S8x1x2x512, .f32⟩
  | .local _ .vmem, ⟨19, _⟩ => ⟨S8x1x2x512, .f32⟩
  | .local _ .vmem, ⟨20, _⟩ => ⟨S1x128, .f32⟩
  | .local _ .vmem, ⟨21, _⟩ => ⟨S8x128x512, .bf16⟩
  | .local _ .vmem, ⟨22, _⟩ => ⟨S8x128x512, .bf16⟩
  | .local _ .vmem, ⟨23, _⟩ => ⟨S8x2x256x256, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![1, 64], ![false, false]⟩

@[reducible] def k0_t1_loop : Scf.Loop 32 :=
  let c0_i32_49 : BitVec 32 := 0#32
  let c2_i32 : BitVec 32 := 2#32
  let v184 : BitVec 32 := Scalar.addi c0_i32_49 c2_i32
  let c1_i32_50 : BitVec 32 := 1#32
  ⟨c0_i32_49, v184, c1_i32_50⟩
def k0_mult1 (k0_t1 : Fin k0_t1_loop.trips) : BitVec 32 :=
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  v185
def k0_off1 (k0_t1 : Fin k0_t1_loop.trips) : Fin 3 → Nat :=
  let c0 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v187 : Index := Scalar.indexCast v186
  let c0_53 : Index := 0#32
  ![0, v187.toNat, 0]
def k0_off2 (k0_t1 : Fin k0_t1_loop.trips) : Fin 3 → Nat :=
  let c1 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v194 : Index := Scalar.indexCast v186
  let c0_56 : Index := 0#32
  ![1, v194.toNat, 0]
def k0_off3 (k0_t1 : Fin k0_t1_loop.trips) : Fin 3 → Nat :=
  let c2 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v201 : Index := Scalar.indexCast v186
  let c0_59 : Index := 0#32
  ![2, v201.toNat, 0]
def k0_off4 (k0_t1 : Fin k0_t1_loop.trips) : Fin 3 → Nat :=
  let c3 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v208 : Index := Scalar.indexCast v186
  let c0_62 : Index := 0#32
  ![3, v208.toNat, 0]
def k0_off5 (k0_t1 : Fin k0_t1_loop.trips) : Fin 3 → Nat :=
  let c4 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v215 : Index := Scalar.indexCast v186
  let c0_65 : Index := 0#32
  ![4, v215.toNat, 0]
def k0_off6 (k0_t1 : Fin k0_t1_loop.trips) : Fin 3 → Nat :=
  let c5 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v222 : Index := Scalar.indexCast v186
  let c0_68 : Index := 0#32
  ![5, v222.toNat, 0]
def k0_off7 (k0_t1 : Fin k0_t1_loop.trips) : Fin 3 → Nat :=
  let c6 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v229 : Index := Scalar.indexCast v186
  let c0_71 : Index := 0#32
  ![6, v229.toNat, 0]
def k0_off8 (k0_t1 : Fin k0_t1_loop.trips) : Fin 3 → Nat :=
  let c7 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v236 : Index := Scalar.indexCast v186
  let c0_74 : Index := 0#32
  ![7, v236.toNat, 0]
def k0_off9 (k0_t1 : Fin k0_t1_loop.trips) : Fin 3 → Nat :=
  let c0_101 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v291 : Index := Scalar.indexCast v186
  let c0_102 : Index := 0#32
  ![0, v291.toNat, 0]
def k0_off10 (k0_t1 : Fin k0_t1_loop.trips) : Fin 3 → Nat :=
  let c1_103 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v294 : Index := Scalar.indexCast v186
  let c0_104 : Index := 0#32
  ![1, v294.toNat, 0]
def k0_off11 (k0_t1 : Fin k0_t1_loop.trips) : Fin 3 → Nat :=
  let c2_105 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v297 : Index := Scalar.indexCast v186
  let c0_106 : Index := 0#32
  ![2, v297.toNat, 0]
def k0_off12 (k0_t1 : Fin k0_t1_loop.trips) : Fin 3 → Nat :=
  let c3_107 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v300 : Index := Scalar.indexCast v186
  let c0_108 : Index := 0#32
  ![3, v300.toNat, 0]
def k0_off13 (k0_t1 : Fin k0_t1_loop.trips) : Fin 3 → Nat :=
  let c4_109 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v303 : Index := Scalar.indexCast v186
  let c0_110 : Index := 0#32
  ![4, v303.toNat, 0]
def k0_off14 (k0_t1 : Fin k0_t1_loop.trips) : Fin 3 → Nat :=
  let c5_111 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v306 : Index := Scalar.indexCast v186
  let c0_112 : Index := 0#32
  ![5, v306.toNat, 0]
def k0_off15 (k0_t1 : Fin k0_t1_loop.trips) : Fin 3 → Nat :=
  let c6_113 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v309 : Index := Scalar.indexCast v186
  let c0_114 : Index := 0#32
  ![6, v309.toNat, 0]
def k0_off16 (k0_t1 : Fin k0_t1_loop.trips) : Fin 3 → Nat :=
  let c7_115 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v312 : Index := Scalar.indexCast v186
  let c0_116 : Index := 0#32
  ![7, v312.toNat, 0]
def k0_off17 (k0_t1 : Fin k0_t1_loop.trips) : Fin 3 → Nat :=
  let c0_357 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1011 : Index := Scalar.indexCast v186
  let c0_358 : Index := 0#32
  ![0, v1011.toNat, 0]
def k0_off18 (k0_t1 : Fin k0_t1_loop.trips) : Fin 3 → Nat :=
  let c0_360 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1015 : Index := Scalar.indexCast v186
  let c256 : Index := 256#32
  ![0, v1015.toNat, 256]
def k0_off19 (k0_t1 : Fin k0_t1_loop.trips) : Fin 3 → Nat :=
  let c1_362 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1020 : Index := Scalar.indexCast v186
  let c0_363 : Index := 0#32
  ![1, v1020.toNat, 0]
def k0_off20 (k0_t1 : Fin k0_t1_loop.trips) : Fin 3 → Nat :=
  let c1_365 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1024 : Index := Scalar.indexCast v186
  let c256_366 : Index := 256#32
  ![1, v1024.toNat, 256]
def k0_off21 (k0_t1 : Fin k0_t1_loop.trips) : Fin 3 → Nat :=
  let c2_368 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1029 : Index := Scalar.indexCast v186
  let c0_369 : Index := 0#32
  ![2, v1029.toNat, 0]
def k0_off22 (k0_t1 : Fin k0_t1_loop.trips) : Fin 3 → Nat :=
  let c2_371 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1033 : Index := Scalar.indexCast v186
  let c256_372 : Index := 256#32
  ![2, v1033.toNat, 256]
def k0_off23 (k0_t1 : Fin k0_t1_loop.trips) : Fin 3 → Nat :=
  let c3_374 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1038 : Index := Scalar.indexCast v186
  let c0_375 : Index := 0#32
  ![3, v1038.toNat, 0]
def k0_off24 (k0_t1 : Fin k0_t1_loop.trips) : Fin 3 → Nat :=
  let c3_377 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1042 : Index := Scalar.indexCast v186
  let c256_378 : Index := 256#32
  ![3, v1042.toNat, 256]
def k0_off25 (k0_t1 : Fin k0_t1_loop.trips) : Fin 3 → Nat :=
  let c4_380 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1047 : Index := Scalar.indexCast v186
  let c0_381 : Index := 0#32
  ![4, v1047.toNat, 0]
def k0_off26 (k0_t1 : Fin k0_t1_loop.trips) : Fin 3 → Nat :=
  let c4_383 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1051 : Index := Scalar.indexCast v186
  let c256_384 : Index := 256#32
  ![4, v1051.toNat, 256]
def k0_off27 (k0_t1 : Fin k0_t1_loop.trips) : Fin 3 → Nat :=
  let c5_386 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1056 : Index := Scalar.indexCast v186
  let c0_387 : Index := 0#32
  ![5, v1056.toNat, 0]
def k0_off28 (k0_t1 : Fin k0_t1_loop.trips) : Fin 3 → Nat :=
  let c5_389 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1060 : Index := Scalar.indexCast v186
  let c256_390 : Index := 256#32
  ![5, v1060.toNat, 256]
def k0_off29 (k0_t1 : Fin k0_t1_loop.trips) : Fin 3 → Nat :=
  let c6_392 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1065 : Index := Scalar.indexCast v186
  let c0_393 : Index := 0#32
  ![6, v1065.toNat, 0]
def k0_off30 (k0_t1 : Fin k0_t1_loop.trips) : Fin 3 → Nat :=
  let c6_395 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1069 : Index := Scalar.indexCast v186
  let c256_396 : Index := 256#32
  ![6, v1069.toNat, 256]
def k0_off31 (k0_t1 : Fin k0_t1_loop.trips) : Fin 3 → Nat :=
  let c7_398 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1074 : Index := Scalar.indexCast v186
  let c0_399 : Index := 0#32
  ![7, v1074.toNat, 0]
def k0_off32 (k0_t1 : Fin k0_t1_loop.trips) : Fin 3 → Nat :=
  let c7_401 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1078 : Index := Scalar.indexCast v186
  let c256_402 : Index := 256#32
  ![7, v1078.toNat, 256]
def k0_off33 (k0_t1 : Fin k0_t1_loop.trips) : Fin 4 → Nat :=
  let c0_460 : Index := 0#32
  let c0_461 : Index := 0#32
  let c0_i32_49 : BitVec 32 := 0#32
  let c1_i32_50 : BitVec 32 := 1#32
  let arg15 : BitVec 32 := Scf.iv c0_i32_49 c1_i32_50 k0_t1
  let v1219 : Index := Scalar.indexCast arg15
  let c0_462 : Index := 0#32
  ![0, 0, v1219.toNat, 0]
def k0_off34 (k0_t1 : Fin k0_t1_loop.trips) : Fin 3 → Nat :=
  let c0_478 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1255 : Index := Scalar.indexCast v186
  let c0_479 : Index := 0#32
  ![0, v1255.toNat, 0]
def k0_off35 (k0_t1 : Fin k0_t1_loop.trips) : Fin 3 → Nat :=
  let c0_487 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1280 : Index := Scalar.indexCast v186
  let c128 : Index := 128#32
  ![0, v1280.toNat, 128]
def k0_off36 (k0_t1 : Fin k0_t1_loop.trips) : Fin 3 → Nat :=
  let c0_495 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1305 : Index := Scalar.indexCast v186
  let c256_496 : Index := 256#32
  ![0, v1305.toNat, 256]
def k0_off37 (k0_t1 : Fin k0_t1_loop.trips) : Fin 3 → Nat :=
  let c0_504 : Index := 0#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1330 : Index := Scalar.indexCast v186
  let c384 : Index := 384#32
  ![0, v1330.toNat, 384]
def k0_off38 (k0_t1 : Fin k0_t1_loop.trips) : Fin 4 → Nat :=
  let c1_507 : Index := 1#32
  let c0_508 : Index := 0#32
  let c0_i32_49 : BitVec 32 := 0#32
  let c1_i32_50 : BitVec 32 := 1#32
  let arg15 : BitVec 32 := Scf.iv c0_i32_49 c1_i32_50 k0_t1
  let v1340 : Index := Scalar.indexCast arg15
  let c0_509 : Index := 0#32
  ![1, 0, v1340.toNat, 0]
def k0_off39 (k0_t1 : Fin k0_t1_loop.trips) : Fin 3 → Nat :=
  let c1_525 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1376 : Index := Scalar.indexCast v186
  let c0_526 : Index := 0#32
  ![1, v1376.toNat, 0]
def k0_off40 (k0_t1 : Fin k0_t1_loop.trips) : Fin 3 → Nat :=
  let c1_534 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1401 : Index := Scalar.indexCast v186
  let c128_535 : Index := 128#32
  ![1, v1401.toNat, 128]
def k0_off41 (k0_t1 : Fin k0_t1_loop.trips) : Fin 3 → Nat :=
  let c1_543 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1426 : Index := Scalar.indexCast v186
  let c256_544 : Index := 256#32
  ![1, v1426.toNat, 256]
def k0_off42 (k0_t1 : Fin k0_t1_loop.trips) : Fin 3 → Nat :=
  let c1_552 : Index := 1#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1451 : Index := Scalar.indexCast v186
  let c384_553 : Index := 384#32
  ![1, v1451.toNat, 384]
def k0_off43 (k0_t1 : Fin k0_t1_loop.trips) : Fin 4 → Nat :=
  let c2_556 : Index := 2#32
  let c0_557 : Index := 0#32
  let c0_i32_49 : BitVec 32 := 0#32
  let c1_i32_50 : BitVec 32 := 1#32
  let arg15 : BitVec 32 := Scf.iv c0_i32_49 c1_i32_50 k0_t1
  let v1461 : Index := Scalar.indexCast arg15
  let c0_558 : Index := 0#32
  ![2, 0, v1461.toNat, 0]
def k0_off44 (k0_t1 : Fin k0_t1_loop.trips) : Fin 3 → Nat :=
  let c2_574 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1497 : Index := Scalar.indexCast v186
  let c0_575 : Index := 0#32
  ![2, v1497.toNat, 0]
def k0_off45 (k0_t1 : Fin k0_t1_loop.trips) : Fin 3 → Nat :=
  let c2_583 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1522 : Index := Scalar.indexCast v186
  let c128_584 : Index := 128#32
  ![2, v1522.toNat, 128]
def k0_off46 (k0_t1 : Fin k0_t1_loop.trips) : Fin 3 → Nat :=
  let c2_592 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1547 : Index := Scalar.indexCast v186
  let c256_593 : Index := 256#32
  ![2, v1547.toNat, 256]
def k0_off47 (k0_t1 : Fin k0_t1_loop.trips) : Fin 3 → Nat :=
  let c2_601 : Index := 2#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1572 : Index := Scalar.indexCast v186
  let c384_602 : Index := 384#32
  ![2, v1572.toNat, 384]
def k0_off48 (k0_t1 : Fin k0_t1_loop.trips) : Fin 4 → Nat :=
  let c3_605 : Index := 3#32
  let c0_606 : Index := 0#32
  let c0_i32_49 : BitVec 32 := 0#32
  let c1_i32_50 : BitVec 32 := 1#32
  let arg15 : BitVec 32 := Scf.iv c0_i32_49 c1_i32_50 k0_t1
  let v1582 : Index := Scalar.indexCast arg15
  let c0_607 : Index := 0#32
  ![3, 0, v1582.toNat, 0]
def k0_off49 (k0_t1 : Fin k0_t1_loop.trips) : Fin 3 → Nat :=
  let c3_623 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1618 : Index := Scalar.indexCast v186
  let c0_624 : Index := 0#32
  ![3, v1618.toNat, 0]
def k0_off50 (k0_t1 : Fin k0_t1_loop.trips) : Fin 3 → Nat :=
  let c3_632 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1643 : Index := Scalar.indexCast v186
  let c128_633 : Index := 128#32
  ![3, v1643.toNat, 128]
def k0_off51 (k0_t1 : Fin k0_t1_loop.trips) : Fin 3 → Nat :=
  let c3_641 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1668 : Index := Scalar.indexCast v186
  let c256_642 : Index := 256#32
  ![3, v1668.toNat, 256]
def k0_off52 (k0_t1 : Fin k0_t1_loop.trips) : Fin 3 → Nat :=
  let c3_650 : Index := 3#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1693 : Index := Scalar.indexCast v186
  let c384_651 : Index := 384#32
  ![3, v1693.toNat, 384]
def k0_off53 (k0_t1 : Fin k0_t1_loop.trips) : Fin 4 → Nat :=
  let c4_654 : Index := 4#32
  let c0_655 : Index := 0#32
  let c0_i32_49 : BitVec 32 := 0#32
  let c1_i32_50 : BitVec 32 := 1#32
  let arg15 : BitVec 32 := Scf.iv c0_i32_49 c1_i32_50 k0_t1
  let v1703 : Index := Scalar.indexCast arg15
  let c0_656 : Index := 0#32
  ![4, 0, v1703.toNat, 0]
def k0_off54 (k0_t1 : Fin k0_t1_loop.trips) : Fin 3 → Nat :=
  let c4_672 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1739 : Index := Scalar.indexCast v186
  let c0_673 : Index := 0#32
  ![4, v1739.toNat, 0]
def k0_off55 (k0_t1 : Fin k0_t1_loop.trips) : Fin 3 → Nat :=
  let c4_681 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1764 : Index := Scalar.indexCast v186
  let c128_682 : Index := 128#32
  ![4, v1764.toNat, 128]
def k0_off56 (k0_t1 : Fin k0_t1_loop.trips) : Fin 3 → Nat :=
  let c4_690 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1789 : Index := Scalar.indexCast v186
  let c256_691 : Index := 256#32
  ![4, v1789.toNat, 256]
def k0_off57 (k0_t1 : Fin k0_t1_loop.trips) : Fin 3 → Nat :=
  let c4_699 : Index := 4#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1814 : Index := Scalar.indexCast v186
  let c384_700 : Index := 384#32
  ![4, v1814.toNat, 384]
def k0_off58 (k0_t1 : Fin k0_t1_loop.trips) : Fin 4 → Nat :=
  let c5_703 : Index := 5#32
  let c0_704 : Index := 0#32
  let c0_i32_49 : BitVec 32 := 0#32
  let c1_i32_50 : BitVec 32 := 1#32
  let arg15 : BitVec 32 := Scf.iv c0_i32_49 c1_i32_50 k0_t1
  let v1824 : Index := Scalar.indexCast arg15
  let c0_705 : Index := 0#32
  ![5, 0, v1824.toNat, 0]
def k0_off59 (k0_t1 : Fin k0_t1_loop.trips) : Fin 3 → Nat :=
  let c5_721 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1860 : Index := Scalar.indexCast v186
  let c0_722 : Index := 0#32
  ![5, v1860.toNat, 0]
def k0_off60 (k0_t1 : Fin k0_t1_loop.trips) : Fin 3 → Nat :=
  let c5_730 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1885 : Index := Scalar.indexCast v186
  let c128_731 : Index := 128#32
  ![5, v1885.toNat, 128]
def k0_off61 (k0_t1 : Fin k0_t1_loop.trips) : Fin 3 → Nat :=
  let c5_739 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1910 : Index := Scalar.indexCast v186
  let c256_740 : Index := 256#32
  ![5, v1910.toNat, 256]
def k0_off62 (k0_t1 : Fin k0_t1_loop.trips) : Fin 3 → Nat :=
  let c5_748 : Index := 5#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1935 : Index := Scalar.indexCast v186
  let c384_749 : Index := 384#32
  ![5, v1935.toNat, 384]
def k0_off63 (k0_t1 : Fin k0_t1_loop.trips) : Fin 4 → Nat :=
  let c6_752 : Index := 6#32
  let c0_753 : Index := 0#32
  let c0_i32_49 : BitVec 32 := 0#32
  let c1_i32_50 : BitVec 32 := 1#32
  let arg15 : BitVec 32 := Scf.iv c0_i32_49 c1_i32_50 k0_t1
  let v1945 : Index := Scalar.indexCast arg15
  let c0_754 : Index := 0#32
  ![6, 0, v1945.toNat, 0]
def k0_off64 (k0_t1 : Fin k0_t1_loop.trips) : Fin 3 → Nat :=
  let c6_770 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v1981 : Index := Scalar.indexCast v186
  let c0_771 : Index := 0#32
  ![6, v1981.toNat, 0]
def k0_off65 (k0_t1 : Fin k0_t1_loop.trips) : Fin 3 → Nat :=
  let c6_779 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v2006 : Index := Scalar.indexCast v186
  let c128_780 : Index := 128#32
  ![6, v2006.toNat, 128]
def k0_off66 (k0_t1 : Fin k0_t1_loop.trips) : Fin 3 → Nat :=
  let c6_788 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v2031 : Index := Scalar.indexCast v186
  let c256_789 : Index := 256#32
  ![6, v2031.toNat, 256]
def k0_off67 (k0_t1 : Fin k0_t1_loop.trips) : Fin 3 → Nat :=
  let c6_797 : Index := 6#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v2056 : Index := Scalar.indexCast v186
  let c384_798 : Index := 384#32
  ![6, v2056.toNat, 384]
def k0_off68 (k0_t1 : Fin k0_t1_loop.trips) : Fin 4 → Nat :=
  let c7_801 : Index := 7#32
  let c0_802 : Index := 0#32
  let c0_i32_49 : BitVec 32 := 0#32
  let c1_i32_50 : BitVec 32 := 1#32
  let arg15 : BitVec 32 := Scf.iv c0_i32_49 c1_i32_50 k0_t1
  let v2066 : Index := Scalar.indexCast arg15
  let c0_803 : Index := 0#32
  ![7, 0, v2066.toNat, 0]
def k0_off69 (k0_t1 : Fin k0_t1_loop.trips) : Fin 3 → Nat :=
  let c7_819 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v2102 : Index := Scalar.indexCast v186
  let c0_820 : Index := 0#32
  ![7, v2102.toNat, 0]
def k0_off70 (k0_t1 : Fin k0_t1_loop.trips) : Fin 3 → Nat :=
  let c7_828 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v2127 : Index := Scalar.indexCast v186
  let c128_829 : Index := 128#32
  ![7, v2127.toNat, 128]
def k0_off71 (k0_t1 : Fin k0_t1_loop.trips) : Fin 3 → Nat :=
  let c7_837 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v2152 : Index := Scalar.indexCast v186
  let c256_838 : Index := 256#32
  ![7, v2152.toNat, 256]
def k0_off72 (k0_t1 : Fin k0_t1_loop.trips) : Fin 3 → Nat :=
  let c7_846 : Index := 7#32
  let c0_i32_49 : BitVec 32 := 0#32
  let c1_i32_50 : BitVec 32 := 1#32
  let arg15 : BitVec 32 := Scf.iv c0_i32_49 c1_i32_50 k0_t1
  let c64_i32_52 : BitVec 32 := 64#32
  let v185 : BitVec 32 := Scalar.muli arg15 c64_i32_52
  let v186 : BitVec 32 := v185
  let v2177 : Index := Scalar.indexCast v186
  let c384_847 : Index := 384#32
  ![7, v2177.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x8192x512 : Shape := ⟨3, ![8, 8192, 512]⟩
abbrev S8x8192x256 : Shape := ⟨3, ![8, 8192, 256]⟩
abbrev S8x128x512 : Shape := ⟨3, ![8, 128, 512]⟩
abbrev S128 : Shape := ⟨1, ![128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x1x1x64 : Shape := ⟨5, ![1, 64, 1, 1, 64]⟩
abbrev S8x8192x4x128 : Shape := ⟨4, ![8, 8192, 4, 128]⟩
abbrev S8192x8x4x128 : Shape := ⟨4, ![8192, 8, 4, 128]⟩
abbrev S128x64x8x4x128 : Shape := ⟨5, ![128, 64, 8, 4, 128]⟩
abbrev S128x8x4x64x64 : Shape := ⟨5, ![128, 8, 4, 64, 64]⟩
abbrev S128x64x8x4x64 : Shape := ⟨5, ![128, 64, 8, 4, 64]⟩
abbrev S8x8192x4x64 : Shape := ⟨4, ![8, 8192, 4, 64]⟩
abbrev S8192x8x4x64 : Shape := ⟨4, ![8192, 8, 4, 64]⟩
abbrev S_ : Shape := ⟨0, ![]⟩
abbrev S8x128x1x512 : Shape := ⟨4, ![8, 128, 1, 512]⟩
abbrev S8x128x64x512 : Shape := ⟨4, ![8, 128, 64, 512]⟩
abbrev S128x64 : Shape := ⟨2, ![128, 64]⟩
abbrev S8192 : Shape := ⟨1, ![8192]⟩
abbrev S8x4x64x128 : Shape := ⟨4, ![8, 4, 64, 128]⟩
abbrev S8x4x128x128 : Shape := ⟨4, ![8, 4, 128, 128]⟩
abbrev S1 : Shape := ⟨1, ![1]⟩
abbrev S1x8x4x64 : Shape := ⟨4, ![1, 8, 4, 64]⟩
abbrev S8x4x64 : Shape := ⟨3, ![8, 4, 64]⟩
abbrev S1x8x4x128 : Shape := ⟨4, ![1, 8, 4, 128]⟩
abbrev S8x4x128 : Shape := ⟨3, ![8, 4, 128]⟩
abbrev S8x4x1x128 : Shape := ⟨4, ![8, 4, 1, 128]⟩
abbrev S1x1x64x1 : Shape := ⟨4, ![1, 1, 64, 1]⟩
abbrev S8x4x128x1 : Shape := ⟨4, ![8, 4, 128, 1]⟩
abbrev S128x8x4x128x64 : Shape := ⟨5, ![128, 8, 4, 128, 64]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 205
  | .vmem => 0
  | .smem => 0
  | _ => 0

abbrev hbmTy0_0 (i : Nat) : BufTy := match i % 128 with
  | 0 => ⟨S8x8192x512, .bf16⟩
  | 1 => ⟨S8x8192x512, .bf16⟩
  | 2 => ⟨S8x8192x512, .bf16⟩
  | 3 => ⟨S8x8192x512, .bf16⟩
  | 4 => ⟨S8x8192x512, .bf16⟩
  | 5 => ⟨S8x8192x512, .bf16⟩
  | 6 => ⟨S8x8192x512, .bf16⟩
  | 7 => ⟨S8x8192x512, .bf16⟩
  | 8 => ⟨S8x8192x256, .f32⟩
  | 9 => ⟨S8x128x512, .f32⟩
  | 10 => ⟨S128, .f32⟩
  | 11 => ⟨S64, .i32⟩
  | 12 => ⟨S64x1, .i32⟩
  | 13 => ⟨S1x64, .i32⟩
  | 14 => ⟨S64x64, .i32⟩
  | 15 => ⟨S64x64, .i32⟩
  | 16 => ⟨S64x64, .i1⟩
  | 17 => ⟨S1x64x1x1x64, .i1⟩
  | 18 => ⟨S8x8192x512, .f32⟩
  | 19 => ⟨S8x8192x4x128, .f32⟩
  | 20 => ⟨S8192x8x4x128, .f32⟩
  | 21 => ⟨S128x64x8x4x128, .f32⟩
  | 22 => ⟨S8x8192x512, .f32⟩
  | 23 => ⟨S8x8192x4x128, .f32⟩
  | 24 => ⟨S8192x8x4x128, .f32⟩
  | 25 => ⟨S128x64x8x4x128, .f32⟩
  | 26 => ⟨S128x8x4x64x64, .f32⟩
  | 27 => ⟨S128x64x8x4x64, .f32⟩
  | 28 => ⟨S8x8192x4x64, .f32⟩
  | 29 => ⟨S8192x8x4x64, .f32⟩
  | 30 => ⟨S128x64x8x4x64, .f32⟩
  | 31 => ⟨S128x64x8x4x64, .f32⟩
  | 32 => ⟨S_, .f32⟩
  | 33 => ⟨S_, .f32⟩
  | 34 => ⟨S128x64x8x4x64, .i1⟩
  | 35 => ⟨S128x64x8x4x64, .f32⟩
  | 36 => ⟨S128x64x8x4x64, .f32⟩
  | 37 => ⟨S8192x8x4x64, .f32⟩
  | 38 => ⟨S8x128x1x512, .f32⟩
  | 39 => ⟨S8x128x64x512, .f32⟩
  | 40 => ⟨S8x8192x4x128, .f32⟩
  | 41 => ⟨S8192x8x4x128, .f32⟩
  | 42 => ⟨S128x64, .i32⟩
  | 43 => ⟨S8192, .i32⟩
  | 44 => ⟨S_, .f32⟩
  | 45 => ⟨S8x4x64x128, .f32⟩
  | 46 => ⟨S_, .f32⟩
  | 47 => ⟨S8x4x64x128, .f32⟩
  | 48 => ⟨S_, .f32⟩
  | 49 => ⟨S8x4x128x128, .f32⟩
  | 50 => ⟨S_, .f32⟩
  | 51 => ⟨S8x4x128x128, .f32⟩
  | 52 => ⟨S8x8192x512, .f32⟩
  | 53 => ⟨S8x8192x4x128, .f32⟩
  | 54 => ⟨S8192x8x4x128, .f32⟩
  | 55 => ⟨S8x8192x512, .f32⟩
  | 56 => ⟨S8x8192x4x128, .f32⟩
  | 57 => ⟨S8192x8x4x128, .f32⟩
  | 58 => ⟨S8x8192x512, .f32⟩
  | 59 => ⟨S8x8192x4x128, .f32⟩
  | 60 => ⟨S8192x8x4x128, .f32⟩
  | 61 => ⟨S8x8192x512, .f32⟩
  | 62 => ⟨S8x8192x4x128, .f32⟩
  | 63 => ⟨S8192x8x4x128, .f32⟩
  | 64 => ⟨S_, .f32⟩
  | 65 => ⟨S8192x8x4x128, .f32⟩
  | 66 => ⟨S_, .f32⟩
  | 67 => ⟨S8192x8x4x128, .f32⟩
  | 68 => ⟨S_, .i32⟩
  | 69 => ⟨S8192, .i32⟩
  | 70 => ⟨S8192x8x4x64, .f32⟩
  | 71 => ⟨S8192x8x4x128, .f32⟩
  | 72 => ⟨S8192x8x4x128, .f32⟩
  | 73 => ⟨S8192x8x4x128, .f32⟩
  | 74 => ⟨S8192x8x4x128, .f32⟩
  | 75 => ⟨S8192x8x4x128, .f32⟩
  | 76 => ⟨S64, .i32⟩
  | 77 => ⟨S_, .i32⟩
  | 78 => ⟨S8x4x64x128, .f32⟩
  | 79 => ⟨S8x4x64x128, .f32⟩
  | 80 => ⟨S8x4x128x128, .f32⟩
  | 81 => ⟨S8x4x128x128, .f32⟩
  | 82 => ⟨S8192x8x4x128, .f32⟩
  | 83 => ⟨S8192x8x4x128, .f32⟩
  | 84 => ⟨S_, .i32⟩
  | 85 => ⟨S_, .i1⟩
  | 86 => ⟨S1, .i32⟩
  | 87 => ⟨S_, .i32⟩
  | 88 => ⟨S_, .i32⟩
  | 89 => ⟨S_, .i32⟩
  | 90 => ⟨S_, .i32⟩
  | 91 => ⟨S1x8x4x64, .f32⟩
  | 92 => ⟨S8x4x64, .f32⟩
  | 93 => ⟨S_, .i32⟩
  | 94 => ⟨S_, .i32⟩
  | 95 => ⟨S_, .i32⟩
  | 96 => ⟨S1x8x4x128, .f32⟩
  | 97 => ⟨S8x4x128, .f32⟩
  | 98 => ⟨S_, .i32⟩
  | 99 => ⟨S_, .i32⟩
  | 100 => ⟨S_, .i32⟩
  | 101 => ⟨S1x8x4x128, .f32⟩
  | 102 => ⟨S8x4x128, .f32⟩
  | 103 => ⟨S_, .i32⟩
  | 104 => ⟨S_, .i32⟩
  | 105 => ⟨S_, .i32⟩
  | 106 => ⟨S1x8x4x128, .f32⟩
  | 107 => ⟨S8x4x128, .f32⟩
  | 108 => ⟨S_, .i32⟩
  | 109 => ⟨S_, .i32⟩
  | 110 => ⟨S_, .i32⟩
  | 111 => ⟨S1x8x4x128, .f32⟩
  | 112 => ⟨S8x4x128, .f32⟩
  | 113 => ⟨S_, .i32⟩
  | 114 => ⟨S_, .i32⟩
  | 115 => ⟨S_, .i32⟩
  | 116 => ⟨S1x8x4x128, .f32⟩
  | 117 => ⟨S8x4x128, .f32⟩
  | 118 => ⟨S_, .i32⟩
  | 119 => ⟨S_, .i1⟩
  | 120 => ⟨S8x4x128x128, .i1⟩
  | 121 => ⟨S8x4x128x128, .f32⟩
  | 122 => ⟨S_, .i32⟩
  | 123 => ⟨S_, .i1⟩
  | 124 => ⟨S8x4x128x128, .i1⟩
  | 125 => ⟨S8x4x1x128, .f32⟩
  | 126 => ⟨S8x4x128x128, .f32⟩
  | 127 => ⟨S8x4x128x128, .f32⟩
  | _ => ⟨S8x8192x512, .bf16⟩

abbrev hbmTy0_1 (i : Nat) : BufTy := match i % 128 with
  | 0 => ⟨S8x4x128x128, .f32⟩
  | 1 => ⟨S8x4x128, .f32⟩
  | 2 => ⟨S8x4x128, .f32⟩
  | 3 => ⟨S8x4x128, .f32⟩
  | 4 => ⟨S8x4x128, .f32⟩
  | 5 => ⟨S64, .i32⟩
  | 6 => ⟨S64, .i1⟩
  | 7 => ⟨S1x1x64x1, .i1⟩
  | 8 => ⟨S8x4x64x128, .i1⟩
  | 9 => ⟨S8x4x1x128, .f32⟩
  | 10 => ⟨S8x4x64x128, .f32⟩
  | 11 => ⟨S8x4x64x128, .f32⟩
  | 12 => ⟨S8x4x1x128, .f32⟩
  | 13 => ⟨S8x4x64x128, .f32⟩
  | 14 => ⟨S8x4x64x128, .f32⟩
  | 15 => ⟨S8x4x128, .f32⟩
  | 16 => ⟨S8x4x128, .f32⟩
  | 17 => ⟨S8x4x128x1, .f32⟩
  | 18 => ⟨S8x4x1x128, .f32⟩
  | 19 => ⟨S8x4x128x128, .f32⟩
  | 20 => ⟨S8x4x128x128, .f32⟩
  | 21 => ⟨S8x4x128x128, .f32⟩
  | 22 => ⟨S8x4x128x128, .f32⟩
  | 23 => ⟨S8x4x128, .f32⟩
  | 24 => ⟨S1x8x4x128, .f32⟩
  | 25 => ⟨S_, .i32⟩
  | 26 => ⟨S_, .i32⟩
  | 27 => ⟨S_, .i32⟩
  | 28 => ⟨S8192x8x4x128, .f32⟩
  | 29 => ⟨S1x8x4x128, .f32⟩
  | 30 => ⟨S_, .i32⟩
  | 31 => ⟨S_, .i32⟩
  | 32 => ⟨S_, .i32⟩
  | 33 => ⟨S8192x8x4x128, .f32⟩
  | 34 => ⟨S_, .i32⟩
  | 35 => ⟨S_, .i32⟩
  | 36 => ⟨S8x8192x512, .f32⟩
  | 37 => ⟨S8x8192x4x128, .f32⟩
  | 38 => ⟨S8192x8x4x128, .f32⟩
  | 39 => ⟨S128x64x8x4x128, .f32⟩
  | 40 => ⟨S8x8192x512, .f32⟩
  | 41 => ⟨S8x8192x4x128, .f32⟩
  | 42 => ⟨S8192x8x4x128, .f32⟩
  | 43 => ⟨S128x64x8x4x128, .f32⟩
  | 44 => ⟨S128x8x4x64x64, .f32⟩
  | 45 => ⟨S128x64x8x4x64, .f32⟩
  | 46 => ⟨S8x8192x4x64, .f32⟩
  | 47 => ⟨S8192x8x4x64, .f32⟩
  | 48 => ⟨S128x64x8x4x64, .f32⟩
  | 49 => ⟨S128x64x8x4x64, .f32⟩
  | 50 => ⟨S128x64x8x4x128, .f32⟩
  | 51 => ⟨S128x8x4x128x64, .f32⟩
  | 52 => ⟨S128x64x8x4x128, .f32⟩
  | 53 => ⟨S8192x8x4x128, .f32⟩
  | 54 => ⟨S8192x8x4x128, .f32⟩
  | 55 => ⟨S8x8192x4x128, .f32⟩
  | 56 => ⟨S8x8192x4x128, .f32⟩
  | 57 => ⟨S_, .f32⟩
  | 58 => ⟨S8x8192x4, .f32⟩
  | 59 => ⟨S8x8192x4x1, .f32⟩
  | 60 => ⟨S_, .f32⟩
  | 61 => ⟨S8x8192x4x1, .f32⟩
  | 62 => ⟨S8x8192x4x1, .f32⟩
  | 63 => ⟨S_, .f32⟩
  | 64 => ⟨S8x8192x4x1, .f32⟩
  | 65 => ⟨S8x8192x4x1, .f32⟩
  | 66 => ⟨S8x8192x4x1, .f32⟩
  | 67 => ⟨S8x8192x4x128, .f32⟩
  | 68 => ⟨S8x8192x4x128, .f32⟩
  | 69 => ⟨S1x1x1x128, .f32⟩
  | 70 => ⟨S8x8192x4x128, .f32⟩
  | 71 => ⟨S8x8192x4x128, .f32⟩
  | 72 => ⟨S8x8192x512, .f32⟩
  | 73 => ⟨S8x8192x4x128, .f32⟩
  | 74 => ⟨S8x8192x4x128, .f32⟩
  | 75 => ⟨S8x8192x512, .f32⟩
  | 76 => ⟨S8x8192x512, .bf16⟩
  | _ => ⟨S8x8192x512, .bf16⟩

abbrev hbmTy (i : Nat) : BufTy := match i / 128 with
  | 0 => hbmTy0_0 i
  | 1 => hbmTy0_1 i
  | _ => ⟨S8x8192x512, .bf16⟩

abbrev bufTy : (tb : Table) → Fin (tcTables nBuf tb) → BufTy
  | .hbm, ⟨i, _⟩ => hbmTy i
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_c : Ref sig .tc := ⟨.hbm, 68, rfl⟩
abbrev main_v47_0 : Ref sig .tc := ⟨.hbm, 69, rfl⟩
abbrev main_v47_1 : Ref sig .tc := ⟨.hbm, 70, rfl⟩
abbrev main_v47_2 : Ref sig .tc := ⟨.hbm, 71, rfl⟩
abbrev main_v47_3 : Ref sig .tc := ⟨.hbm, 72, rfl⟩
abbrev main_v47_4 : Ref sig .tc := ⟨.hbm, 73, rfl⟩
abbrev main_v47_5 : Ref sig .tc := ⟨.hbm, 74, rfl⟩
abbrev main_v47_6 : Ref sig .tc := ⟨.hbm, 75, rfl⟩
abbrev main_v47_7 : Ref sig .tc := ⟨.hbm, 76, rfl⟩
abbrev main_v47_8 : Ref sig .tc := ⟨.hbm, 77, rfl⟩
abbrev main_v47_9 : Ref sig .tc := ⟨.hbm, 78, rfl⟩
abbrev main_v47_10 : Ref sig .tc := ⟨.hbm, 79, rfl⟩
abbrev main_v47_11 : Ref sig .tc := ⟨.hbm, 80, rfl⟩
abbrev main_v47_12 : Ref sig .tc := ⟨.hbm, 81, rfl⟩
abbrev main_v47_13 : Ref sig .tc := ⟨.hbm, 82, rfl⟩
abbrev main_v47_14 : Ref sig .tc := ⟨.hbm, 83, rfl⟩
abbrev main_while0c_c_23 : Ref sig .tc := ⟨.hbm, 84, rfl⟩
abbrev main_while0c_v86 : Ref sig .tc := ⟨.hbm, 85, rfl⟩
abbrev main_while0b_call1_v0 : Ref sig .tc := ⟨.hbm, 86, rfl⟩
abbrev main_while0b_v86 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_v0 : Ref sig .tc := ⟨.hbm, 91, rfl⟩
abbrev main_while0b_v87 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_v0 : Ref sig .tc := ⟨.hbm, 96, rfl⟩
abbrev main_while0b_v88 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_v0 : Ref sig .tc := ⟨.hbm, 101, rfl⟩
abbrev main_while0b_v89 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_v0 : Ref sig .tc := ⟨.hbm, 106, rfl⟩
abbrev main_while0b_v90 : Ref sig .tc := ⟨.hbm, 107, rfl⟩
abbrev main_while0b_call6_c : Ref sig .tc := ⟨.hbm, 108, rfl⟩
abbrev main_while0b_call6_c_0 : Ref sig .tc := ⟨.hbm, 109, rfl⟩
abbrev main_while0b_call6_c_1 : Ref sig .tc := ⟨.hbm, 110, rfl⟩
abbrev main_while0b_call6_v0 : Ref sig .tc := ⟨.hbm, 111, rfl⟩
abbrev main_while0b_v91 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_v0 : Ref sig .tc := ⟨.hbm, 116, rfl⟩
abbrev main_while0b_v92 : Ref sig .tc := ⟨.hbm, 117, rfl⟩
abbrev main_while0b_c_23 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_c_24 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_v108 : Ref sig .tc := ⟨.hbm, 135, rfl⟩
abbrev main_while0b_v109 : Ref sig .tc := ⟨.hbm, 136, rfl⟩
abbrev main_while0b_v110 : Ref sig .tc := ⟨.hbm, 137, rfl⟩
abbrev main_while0b_v111 : Ref sig .tc := ⟨.hbm, 138, rfl⟩
abbrev main_while0b_v112 : Ref sig .tc := ⟨.hbm, 139, rfl⟩
abbrev main_while0b_v113 : Ref sig .tc := ⟨.hbm, 140, rfl⟩
abbrev main_while0b_v114 : Ref sig .tc := ⟨.hbm, 141, rfl⟩
abbrev main_while0b_v115 : Ref sig .tc := ⟨.hbm, 142, rfl⟩
abbrev main_while0b_v116 : Ref sig .tc := ⟨.hbm, 143, rfl⟩
abbrev main_while0b_v117 : Ref sig .tc := ⟨.hbm, 144, rfl⟩
abbrev main_while0b_v118 : Ref sig .tc := ⟨.hbm, 145, rfl⟩
abbrev main_while0b_v119 : Ref sig .tc := ⟨.hbm, 146, rfl⟩
abbrev main_while0b_v120 : Ref sig .tc := ⟨.hbm, 147, rfl⟩
abbrev main_while0b_v121 : Ref sig .tc := ⟨.hbm, 148, rfl⟩
abbrev main_while0b_v122 : Ref sig .tc := ⟨.hbm, 149, rfl⟩
abbrev main_while0b_v123 : Ref sig .tc := ⟨.hbm, 150, rfl⟩
abbrev main_while0b_v124 : Ref sig .tc := ⟨.hbm, 151, rfl⟩
abbrev main_while0b_call8_v0 : Ref sig .tc := ⟨.hbm, 152, rfl⟩
abbrev main_while0b_call8_c : Ref sig .tc := ⟨.hbm, 153, rfl⟩
abbrev main_while0b_call8_c_0 : Ref sig .tc := ⟨.hbm, 154, rfl⟩
abbrev main_while0b_call8_c_1 : Ref sig .tc := ⟨.hbm, 155, rfl⟩
abbrev main_while0b_v125 : Ref sig .tc := ⟨.hbm, 156, rfl⟩
abbrev main_while0b_call9_v0 : Ref sig .tc := ⟨.hbm, 157, rfl⟩
abbrev main_while0b_call9_c : Ref sig .tc := ⟨.hbm, 158, rfl⟩
abbrev main_while0b_call9_c_0 : Ref sig .tc := ⟨.hbm, 159, rfl⟩
abbrev main_while0b_call9_c_1 : Ref sig .tc := ⟨.hbm, 160, rfl⟩
abbrev main_while0b_v126 : Ref sig .tc := ⟨.hbm, 161, rfl⟩
abbrev main_while0b_c_25 : Ref sig .tc := ⟨.hbm, 162, rfl⟩
abbrev main_while0b_v127 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_v59 : Ref sig .tc := ⟨.hbm, 175, rfl⟩
abbrev main_v60 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_cst_6 : Ref sig .tc := ⟨.hbm, 185, rfl⟩
abbrev main_v69 : Ref sig .tc := ⟨.hbm, 186, rfl⟩
abbrev main_v70 : Ref sig .tc := ⟨.hbm, 187, rfl⟩
abbrev main_cst_7 : Ref sig .tc := ⟨.hbm, 188, rfl⟩
abbrev main_v71 : Ref sig .tc := ⟨.hbm, 189, rfl⟩
abbrev main_v72 : Ref sig .tc := ⟨.hbm, 190, rfl⟩
abbrev main_cst_8 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 27
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x4096, .f32⟩
  | .hbm, ⟨21, _⟩ => ⟨S_, .f32⟩
  | .hbm, ⟨22, _⟩ => ⟨S65536x4096, .f32⟩
  | .hbm, ⟨23, _⟩ => ⟨S65536x4096, .f32⟩
  | .hbm, ⟨24, _⟩ => ⟨S65536x4096, .f32⟩
  | .hbm, ⟨25, _⟩ => ⟨S65536x1024, .f32⟩
  | .hbm, ⟨26, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S65536x1024 : Shape := ⟨2, ![65536, 1024]⟩
abbrev S8x8192x512 : Shape := ⟨3, ![8, 8192, 512]⟩
abbrev S65536x8448 : Shape := ⟨2, ![65536, 8448]⟩
abbrev S3x512x1024 : Shape := ⟨3, ![3, 512, 1024]⟩
abbrev S1024x1024 : Shape := ⟨2, ![1024, 1024]⟩
abbrev S65536x512 : Shape := ⟨2, ![65536, 512]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 13
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S8x8192x512, .bf16⟩
  | .hbm, ⟨2, _⟩ => ⟨S8x8192x512, .bf16⟩
  | .hbm, ⟨3, _⟩ => ⟨S8x8192x512, .bf16⟩
  | .hbm, ⟨4, _⟩ => ⟨S65536x8448, .bf16⟩
  | .hbm, ⟨5, _⟩ => ⟨S3x512x1024, .f32⟩
  | .hbm, ⟨6, _⟩ => ⟨S1024x1024, .f32⟩
  | .hbm, ⟨7, _⟩ => ⟨S65536x512, .bf16⟩
  | .hbm, ⟨8, _⟩ => ⟨S65536x512, .bf16⟩
  | .hbm, ⟨9, _⟩ => ⟨S65536x512, .bf16⟩
  | .hbm, ⟨10, _⟩ => ⟨S3x512x1024, .bf16⟩
  | .hbm, ⟨11, _⟩ => ⟨S1024x1024, .bf16⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S3x512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S65536x1024 : Shape := ⟨2, ![65536, 1024]⟩
abbrev S8x8192x512 : Shape := ⟨3, ![8, 8192, 512]⟩
abbrev S65536x8448 : Shape := ⟨2, ![65536, 8448]⟩
abbrev S3x512x1024 : Shape := ⟨3, ![3, 512, 1024]⟩
abbrev S1024x1024 : Shape := ⟨2, ![1024, 1024]⟩
abbrev S65536x3072 : Shape := ⟨2, ![65536, 3072]⟩
abbrev S65536x3x1024 : Shape := ⟨3, ![65536, 3, 1024]⟩
abbrev S_ : Shape := ⟨0, ![]⟩
abbrev S65536x512 : Shape := ⟨2, ![65536, 512]⟩
abbrev S65536x1x1024 : Shape := ⟨3, ![65536, 1, 1024]⟩
abbrev S1x512x1024 : Shape := ⟨3, ![1, 512, 1024]⟩
abbrev S512x1024 : Shape := ⟨2, ![512, 1024]⟩

abbrev nBuf : Space → Nat
  | .hbm => 46
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x512, .bf16⟩
  | .hbm, ⟨2, _⟩ => ⟨S8x8192x512, .bf16⟩
  | .hbm, ⟨3, _⟩ => ⟨S8x8192x512, .bf16⟩
  | .hbm, ⟨4, _⟩ => ⟨S65536x8448, .bf16⟩
  | .hbm, ⟨5, _⟩ => ⟨S3x512x1024, .f32⟩
  | .hbm, ⟨6, _⟩ => ⟨S1024x1024, .f32⟩
  | .hbm, ⟨7, _⟩ => ⟨S65536x3072, .bf16⟩
  | .hbm, ⟨8, _⟩ => ⟨S65536x3072, .f32⟩
  | .hbm, ⟨9, _⟩ => ⟨S65536x3x1024, .f32⟩
  | .hbm, ⟨10, _⟩ => ⟨S65536x3x1024, .f32⟩
  | .hbm, ⟨11, _⟩ => ⟨S65536x3x1024, .f32⟩
  | .hbm, ⟨12, _⟩ => ⟨S_, .f32⟩
  | .hbm, ⟨13, _⟩ => ⟨S65536x3x1024, .f32⟩
  | .hbm, ⟨14, _⟩ => ⟨S65536x3x1024, .f32⟩
  | .hbm, ⟨15, _⟩ => ⟨S_, .f32⟩
  | .hbm, ⟨16, _⟩ => ⟨S65536x3x1024, .f32⟩
  | .hbm, ⟨17, _⟩ => ⟨S65536x3x1024, .f32⟩
  | .hbm, ⟨18, _⟩ => ⟨S8x8192x512, .f32⟩
  | .hbm, ⟨19, _⟩ => ⟨S65536x512, .f32⟩
  | .hbm, ⟨20, _⟩ => ⟨S8x8192x512, .f32⟩
  | .hbm, ⟨21, _⟩ => ⟨S65536x512, .f32⟩
  | .hbm, ⟨22, _⟩ => ⟨S8x8192x512, .f32⟩
  | .hbm, ⟨23, _⟩ => ⟨S65536x512, .f32⟩
  | .hbm, ⟨24, _⟩ => ⟨S65536x1x1024, .f32⟩
  | .hbm, ⟨25, _⟩ => ⟨S65536x1024, .f32⟩
  | .hbm, ⟨26, _⟩ => ⟨S1x512x1024, .f32⟩
  | .hbm, ⟨27, _⟩ => ⟨S512x1024, .f32⟩
  | .hbm, ⟨28, _⟩ => ⟨S65536x1024, .f32⟩
  | .hbm, ⟨29, _⟩ => ⟨S65536x1024, .f32⟩
  | .hbm, ⟨30, _⟩ => ⟨S65536x1x1024, .f32⟩
  | .hbm, ⟨31, _⟩ => ⟨S65536x1024, .f32⟩
  | .hbm, ⟨32, _⟩ => ⟨S1x512x1024, .f32⟩
  | .hbm, ⟨33, _⟩ => ⟨S512x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1x1024, .f32⟩
  | .hbm, ⟨38, _⟩ => ⟨S65536x1024, .f32⟩
  | .hbm, ⟨39, _⟩ => ⟨S1x512x1024, .f32⟩
  | .hbm, ⟨40, _⟩ => ⟨S512x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x8448 : Shape := ⟨2, ![1024, 8448]⟩
abbrev S1x1024 : Shape := ⟨2, ![1, 1024]⟩
abbrev S65536x8448 : Shape := ⟨2, ![65536, 8448]⟩
abbrev S2048x1024 : Shape := ⟨2, ![2048, 1024]⟩
abbrev S1024x768 : Shape := ⟨2, ![1024, 768]⟩
abbrev S2048x768 : Shape := ⟨2, ![2048, 768]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8448, .bf16⟩
  | .hbm, ⟨3, _⟩ => ⟨S1x1024, .f32⟩
  | .hbm, ⟨4, _⟩ => ⟨S65536x8448, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S2048x768, .bf16⟩
  | .local _ .vmem, ⟨6, _⟩ => ⟨S2048x768, .bf16⟩
  | .local _ .vmem, ⟨7, _⟩ => ⟨S2048x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S65536x1024 : Shape := ⟨2, ![65536, 1024]⟩
abbrev S1024 : Shape := ⟨1, ![1024]⟩
abbrev S1024x8448 : Shape := ⟨2, ![1024, 8448]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8448 : Shape := ⟨2, ![65536, 8448]⟩

abbrev nBuf : Space → Nat
  | .hbm => 22
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8448, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S1024x8448, .f32⟩
  | .hbm, ⟨20, _⟩ => ⟨S65536x8448, .f32⟩
  | .hbm, ⟨21, _⟩ => ⟨S65536x8448, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdealLoop.lean ====
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A trip's pieces do not depend on what the output block held: the region never loads it. -/
theorem trip_free (𝒱 : Variants) (c : Dev nD) (bd : Option 𝒱.V) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (v21 : IVec S64x256 1) (v22 : IVec S64x256 1) (v77 : FVec F S256x256 .bf16) (v132 : FVec F S256x512 .bf16) (v157 : IVec S256x256 32) (v182 : IVec S256x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (f f' : BufTy.Contents (Elt F) arg13.view.ty) (g : BufTy.Contents (Elt F) arg14.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v21 v22 v77 v132 v157 v182 X_arg2 X_arg3 X_arg4 X_arg5 X_arg6 X_arg7 X_arg8 X_arg9 X_arg10 X_arg11 X_arg12 k f g = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v21 v22 v77 v132 v157 v182 X_arg2 X_arg3 X_arg4 X_arg5 X_arg6 X_arg7 X_arg8 X_arg9 X_arg10 X_arg11 X_arg12 k f' g := by
  unfold tripL_k0_t1 trip_k0_t1
  rfl

/-- So neither do the pieces of all the trips. -/
theorem pb_free (𝒱 : Variants) (c : Dev nD) (bd : Option 𝒱.V) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (v21 : IVec S64x256 1) (v22 : IVec S64x256 1) (v77 : FVec F S256x256 .bf16) (v132 : FVec F S256x512 .bf16) (v157 : IVec S256x256 32) (v182 : IVec S256x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (f f' : BufTy.Contents (Elt F) arg13.view.ty) (g : BufTy.Contents (Elt F) arg14.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v21 v22 v77 v132 v157 v182 X_arg2 X_arg3 X_arg4 X_arg5 X_arg6 X_arg7 X_arg8 X_arg9 X_arg10 X_arg11 X_arg12 f g n = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v21 v22 v77 v132 v157 v182 X_arg2 X_arg3 X_arg4 X_arg5 X_arg6 X_arg7 X_arg8 X_arg9 X_arg10 X_arg11 X_arg12 f' g n := by
  induction n with
  | zero => rfl
  | succ n ih =>
    rw [pb_k0_t1.eq_2, pb_k0_t1.eq_2, ih]
    unfold pb_k0_t1Step
    by_cases h : n < k0_t1_loop.trips
    · rw [dif_pos h, dif_pos h, trip_free 𝒱 c bd i arg2 harg2 arg3 harg3 arg4 harg4 arg5 harg5 arg6 harg6 arg7 harg7 arg8 harg8 arg9 harg9 arg10 harg10 arg11 harg11 arg12 harg12 arg13 harg13 arg14 harg14 v21 v22 v77 v132 v157 v182 X_arg2 X_arg3 X_arg4 X_arg5 X_arg6 X_arg7 X_arg8 X_arg9 X_arg10 X_arg11 X_arg12 ⟨n, h⟩ (arg13.view.writes (Elt F) f _) (arg13.view.writes (Elt F) f' _)]
    · rw [dif_neg h, dif_neg h]

end Cert.KernelIdeal.Gen

end
-- ==== Proof.KernelIdealRunA.lean ====
module

public import proofs.«01_k».proof.Proof.KernelIdealLoop
public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) :
    Σ' (L11 : List (View.Piece (Elt F) S8x128x512 .bf16)), { LS0 : List (View.Piece (Elt F) S8x2x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0_gdn_chunk i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_gdn_chunk_eq_skeleton]; unfold cc0_gdn_chunk_skel
    simp only [k0_part49_eq_skeleton, k0_part50_eq_skeleton, k0_part51_eq_skeleton, k0_part52_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    rw [pb_free (F := F) (f := f11) (f' := arg13.view.junk)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact HS0

end Cert.KernelIdeal.Gen

end
-- ==== Proof.KernelIdealRunB.lean ====
module

public import proofs.«01_k».proof.Proof.KernelIdealLoop
public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : ¬cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) (xs0 : Vec F S8x2x256x256 .f32) :
    Σ' (L11 : List (View.Piece (Elt F) S8x128x512 .bf16)), { LS0 : List (View.Piece (Elt F) S8x2x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc0_gdn_chunk i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_gdn_chunk_eq_skeleton]; unfold cc0_gdn_chunk_skel
    simp only [k0_part49_eq_skeleton, k0_part50_eq_skeleton, k0_part51_eq_skeleton, k0_part52_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0
    sl_exec (disch := first | sl_exact hc0)
    rw [pb_free (F := F) (f := f11) (f' := arg13.view.junk)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    iexists _; iexact HS0

end Cert.KernelIdeal.Gen

end
-- ==== Proof.KernelIdealFrame.lean ====
module

public import proofs.«01_k».proof.Proof.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (64 stores of `S1x64x128`, checked by the kernel's evaluation: Lib/Ring.lean `Piece.tiledL`, linear in the pieces, through a loop's `@[irreducible]` trip theorem too), so they cover it. -/
theorem cover0_A_11 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) (y : S8x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1 S1x64x128.size (by sl_kernel_rfl) y

/-- What case A leaves in output 11's staging buffer: its pieces read back over junk. -/
def out0_A_11 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) : Vec F S8x128x512 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1)

/-- Case A's pieces for scratch `arg14`, which the kernel carries between points, cover it: one of them a store of the WHOLE buffer (Lib/Ring.lean `sl_whole_mem`). -/
theorem scover0_A_0 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) (y : S8x2x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1 (by sl_whole_mem) y

/-- What case A leaves in scratch `arg14`: its pieces read back over junk. -/
def sout0_A_0 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) : Vec F S8x2x256x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1)

/-- Case B's pieces for output 11 tile its block (64 stores of `S1x64x128`, checked by the kernel's evaluation: Lib/Ring.lean `Piece.tiledL`, linear in the pieces, through a loop's `@[irreducible]` trip theorem too), so they cover it. -/
theorem cover0_B_11 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : ¬cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) (xs0 : Vec F S8x2x256x256 .f32) (y : S8x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).1 S1x64x128.size (by sl_kernel_rfl) y

/-- What case B leaves in output 11's staging buffer: its pieces read back over junk. -/
def out0_B_11 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : ¬cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) (xs0 : Vec F S8x2x256x256 .f32) : Vec F S8x128x512 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).1)

/-- Case B's pieces for scratch `arg14`, which the kernel carries between points, cover it: 32 pieces of `S1x1x256x256` tiling it (Lib/Ring.lean `Piece.tiledL`). -/
theorem scover0_B_0 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : ¬cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) (xs0 : Vec F S8x2x256x256 .f32) (y : S8x2x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).2.1 S1x1x256x256.size (by sl_kernel_rfl) y

/-- What case B leaves in scratch `arg14`: its pieces read back over junk. -/
def sout0_B_0 (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : ¬cond0_0 i)
    (x0 : Vec F S8x128x512 .bf16) (x1 : Vec F S8x128x512 .bf16) (x2 : Vec F S8x128x512 .bf16) (x3 : Vec F S8x128x512 .bf16) (x4 : Vec F S8x128x512 .bf16) (x5 : Vec F S8x128x512 .bf16) (x6 : Vec F S8x128x512 .bf16) (x7 : Vec F S8x128x512 .bf16) (x8 : Vec F S8x128x256 .f32) (x9 : Vec F S8x1x2x512 .f32) (x10 : Vec F S1x128 .f32) (xs0 : Vec F S8x2x256x256 .f32) : Vec F S8x2x256x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128x512 .bf16 × Vec F S8x2x256x256 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 64 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)

/-- `outsAt0` at a point of case A: that case's contents. -/
theorem outsAt0_A (c : Dev nD) (t : Fin cfg0.N) (h0 : t.val % 64 = 0) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_11 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_11 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Gen

end
-- ==== Proof.Value2.lean ====
/- The feed-forward call: the array the kernel leaves is the reference's, index by index. -/
module

public import proofs.«01_k».proof.Proof.Gen.Kernel2Ideal.Value
public import proofs.«01_k».proof.Proof.Gen.Reference2Ideal
public import Idealize.ShloMosaic.Lib.Pipeline.Value
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value2

open Cert.Kernel2Ideal Cert.Kernel2Ideal.Gen

section Ref
open Cert.Reference2Ideal Cert.Reference2Ideal.Gen

/-- The normalized rows, as the reference computes them. -/
abbrev HN (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf
    (broadcastInDim S65536x1 ![0] bcast_S65536_S65536x1_0 (Host.reduceAdd (mulf x x) (constant S_ .f32 0x00000000#32)
      reducesTo_S65536x1024_S65536_d1 h_S_))
    (broadcastInDim S65536x1 ![] bcast_S_S65536x1 (constant S_ .f32 0x44800000#32)))
    (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The hidden layer after its rectifier. -/
abbrev HID (h : FVec Ideal S65536x1024 .f32) (w : FVec Ideal S1024x4096 .f32) : FVec Ideal S65536x4096 .f32 :=
  maximumf (Host.dotGeneral dot_S65536x1024_S1024x4096_S65536x4096_1_0_0_1_n_n none h w)
    (broadcastInDim S65536x4096 ![] bcast_S_S65536x4096 (constant S_ .f32 0x00000000#32))

/-- The reference's result. -/
abbrev REF (x : FVec Ideal S65536x1024 .f32) (g : FVec Ideal S1024 .f32) (w1 : FVec Ideal S1024x4096 .f32)
    (w2 : FVec Ideal S4096x1024 .f32) : FVec Ideal S65536x1024 .f32 :=
  addf x (Host.dotGeneral dot_S65536x4096_S4096x1024_S65536x1024_1_0_0_1_n_n none
    (mulf (HID (HN x g) w1) (HID (HN x g) w1)) w2)

end Ref

variable (m : (ℓ : Loc nD τ sig) → Buf (Elt Ideal) ℓ)

theorem idx_val : ∀ t : Fin cfg0.N, win0_0.index t = ![t.val / 4, 0]
    ∧ win0_1.index t = ![0, 0]
    ∧ win0_2.index t = ![0, t.val % 4]
    ∧ win0_3.index t = ![t.val % 4, 0]
    ∧ win0_4.index t = ![t.val / 4, 0] :=
  (by decide +kernel : ∀ t : Fin grid0.N, _)

/-- What one point adds: its slice of the hidden layer, squared, times its rows of the second weight. -/
def part (hn w1 w2 : FVec Ideal S1024x1024 .bf16) (y : S1024x1024.Idx) : EReal :=
  ∑ j : Fin 1024, max (∑ k : Fin 1024, (hn (ix2 (y 0) k) : EReal) * w1 (ix2 k j)) 0
    * max (∑ k : Fin 1024, (hn (ix2 (y 0) k) : EReal) * w1 (ix2 k j)) 0 * w2 (ix2 j (y 1))

theorem pay2_at (hn w1 : FVec Ideal S1024x1024 .bf16) (acc : FVec Ideal S1024x1024 .f32) (w2 : FVec Ideal S1024x1024 .bf16)
    (y : S1024x1024.Idx) : k0_pay2 hn w1 acc w2 y = acc y + part hn w1 w2 y := by
  unfold part
  pointwise [k0_pay2]

theorem x_at (c : Dev nD) (t : Fin cfg0.N) (y : S1024x1024.Idx) (j : Cert.Reference2Ideal.S65536x1024.Idx)
    (h0 : (j 0 : ℕ) = t.val / 4 * 1024 + y 0) (h1 : (j 1 : ℕ) = y 1) :
    iblk m c 0 t y = m ((c : Thread nD τ).loc main_arg0) j := by
  blk_point [iblk, V, idx_val t]

theorem g_at (c : Dev nD) (t : Fin cfg0.N) (y : S1x1024.Idx) (j : Cert.Reference2Ideal.S1024.Idx) (h1 : (j 0 : ℕ) = y 1) :
    iblk m c 1 t y = m ((c : Thread nD τ).loc main_arg1) j := by
  blk_simp [iblk, idx_val t]
  entry_read
  pointwise
  blk_ext [idx_val t]

/-- The normalized block a run of four points works on. -/
theorem hn_at (c : Dev nD) (t : Fin cfg0.N) (y : S1024x1024.Idx) (j : Cert.Reference2Ideal.S65536x1024.Idx)
    (h0 : (j 0 : ℕ) = t.val / 4 * 1024 + y 0) (h1 : (j 1 : ℕ) = y 1) :
    k0_pay1 (F := Ideal) (iblk m c 0 t) (iblk m c 1 t) y
      = HN (m ((c : Thread nD τ).loc main_arg0)) (m ((c : Thread nD τ).loc main_arg1)) j := by
  pointwise [k0_pay1, HN]
  have hx : ∀ k : Fin 1024, iblk m c 0 t (ix2 (y 0) k) = m ((c : Thread nD τ).loc main_arg0) (ix2 (j 0) k) :=
    fun k => x_at m c t _ _ h0 rfl
  simp only [hx]
  rw [x_at m c t y j h0 h1, g_at m c t (ix2 0 (y 1)) (ix1 (j 1)) h1]

theorem w1_at (c : Dev nD) (t : Fin cfg0.N) (y : S1024x1024.Idx) (j : Cert.Reference2Ideal.S1024x4096.Idx)
    (h0 : (j 0 : ℕ) = y 0) (h1 : (j 1 : ℕ) = t.val % 4 * 1024 + y 1) :
    iblk m c 2 t y = m ((c : Thread nD τ).loc main_arg2) j := by
  blk_simp [iblk, idx_val t]
  entry_read
  pointwise
  blk_ext [idx_val t]

theorem w2_at (c : Dev nD) (t : Fin cfg0.N) (y : S1024x1024.Idx) (j : Cert.Reference2Ideal.S4096x1024.Idx)
    (h0 : (j 0 : ℕ) = t.val % 4 * 1024 + y 0) (h1 : (j 1 : ℕ) = y 1) :
    iblk m c 3 t y = m ((c : Thread nD τ).loc main_arg3) j := by
  blk_simp [iblk, idx_val t]
  entry_read
  pointwise
  blk_ext [idx_val t]

/-- The scratch after each point holds its run's normalized block. -/
theorem scratch_at (c : Dev nD) : ∀ (n : ℕ) (hn : n < cfg0.N) (y : S1024x1024.Idx) (j : Cert.Reference2Ideal.S65536x1024.Idx),
    (j 0 : ℕ) = n / 4 * 1024 + y 0 → (j 1 : ℕ) = y 1 →
    (outsAt0 m c n hn).2 y = HN (m ((c : Thread nD τ).loc main_arg0)) (m ((c : Thread nD τ).loc main_arg1)) j := by
  intro n
  induction n with
  | zero =>
    intro hn y j h0 h1
    rw [outsAt0_A m c ⟨0, hn⟩ rfl]
    frame_out
    exact hn_at m c ⟨0, hn⟩ y j h0 h1
  | succ n ih =>
    intro hn y j h0 h1
    by_cases h : (n + 1) % 4 = 0
    · rw [outsAt0_A m c ⟨n + 1, hn⟩ h]
      frame_out
      exact hn_at m c ⟨n + 1, hn⟩ y j h0 h1
    · rw [outsAt0_B m c ⟨n + 1, hn⟩ h]
      frame_out
      exact ih (Nat.lt_of_succ_lt hn) y j (by omega) h1

/-- Point `t`'s own copy of the input block, which the first point of a run starts from. -/
def base (c : Dev nD) (t : Fin cfg0.N) (y : S1024x1024.Idx) : EReal := if t.val % 4 = 0 then iblk m c 0 t y else (0 : EReal)

/-- What point `t` adds to its output block. -/
def term (c : Dev nD) (t : Fin cfg0.N) (y : S1024x1024.Idx) : EReal :=
  base m c t y + part (outsAt0 m c t.val t.isLt).2 (iblk m c 2 t) (iblk m c 3 t) y

/-- One hidden slice's share of the reference's result at `j`. -/
def slice (c : Dev nD) (j : Cert.Reference2Ideal.S65536x1024.Idx) (l : Fin 4096) : EReal :=
  max (∑ k : Fin 1024, (HN (m ((c : Thread nD τ).loc main_arg0)) (m ((c : Thread nD τ).loc main_arg1)) (ix2 (j 0) k) : EReal)
      * m ((c : Thread nD τ).loc main_arg2) (ix2 k l)) 0
    * max (∑ k : Fin 1024, (HN (m ((c : Thread nD τ).loc main_arg0)) (m ((c : Thread nD τ).loc main_arg1)) (ix2 (j 0) k) : EReal)
      * m ((c : Thread nD τ).loc main_arg2) (ix2 k l)) 0
    * m ((c : Thread nD τ).loc main_arg3) (ix2 l (j 1))

theorem part_at (c : Dev nD) (t : Fin cfg0.N) (y : S1024x1024.Idx) (j : Cert.Reference2Ideal.S65536x1024.Idx)
    (h0 : (j 0 : ℕ) = t.val / 4 * 1024 + y 0) (h1 : (j 1 : ℕ) = y 1) :
    part (outsAt0 m c t.val t.isLt).2 (iblk m c 2 t) (iblk m c 3 t) y
      = ∑ k : Fin 1024, slice m c j ⟨t.val % 4 * 1024 + k.val, by have := k.isLt; have := Nat.mod_lt t.val (y := 4) (by decide); omega⟩ := by
  unfold part slice
  refine Finset.sum_congr rfl fun k _ => ?_
  have hh : ∀ k' : Fin 1024, (outsAt0 m c t.val t.isLt).2 (ix2 (y 0) k')
      = HN (m ((c : Thread nD τ).loc main_arg0)) (m ((c : Thread nD τ).loc main_arg1)) (ix2 (j 0) k') :=
    fun k' => scratch_at m c t.val t.isLt _ _ h0 rfl
  have hw : ∀ k' : Fin 1024, iblk m c 2 t (ix2 k' k) = m ((c : Thread nD τ).loc main_arg2)
      (ix2 k' ⟨t.val % 4 * 1024 + k.val, by have := k.isLt; have := Nat.mod_lt t.val (y := 4) (by decide); omega⟩) :=
    fun k' => w1_at m c t _ _ rfl rfl
  simp only [hh, hw]
  rw [w2_at m c t (ix2 k (y 1)) (ix2 ⟨t.val % 4 * 1024 + k.val, by have := k.isLt; have := Nat.mod_lt t.val (y := 4) (by decide); omega⟩ (j 1)) rfl h1]

theorem sum_term (c : Dev nD) (t : Fin cfg0.N) (hr : t.val % 4 = 4 - 1) (y : S1024x1024.Idx)
    (j : Cert.Reference2Ideal.S65536x1024.Idx) (h0 : (j 0 : ℕ) = t.val / 4 * 1024 + y 0) (h1 : (j 1 : ℕ) = y 1) :
    (∑ s : Fin 4, term m c ⟨4 * (t.val / 4) + s.val, Pipeline.run_point_lt_of_flush t hr s⟩ y : EReal)
      = (show FVec Ideal Cert.Reference2Ideal.S65536x1024 .f32 from m ((c : Thread nD τ).loc main_arg0)) j + ∑ l : Fin 4096, slice m c j l := by
  unfold term
  rw [Finset.sum_add_distrib]
  congr 1
  · rw [Fin.sum_univ_four]
    unfold base
    rw [if_pos (by simp), if_neg (by simp), if_neg (by simp), if_neg (by simp), add_zero, add_zero, add_zero]
    exact x_at m c _ y j (by simp only [Fin.val_zero]; omega) h1
  · refine Eq.trans ?_ (Fin.sum_mul_add_congr (S := 4) (n := 1024) (F := fun s k => slice m c j ⟨s.val * 1024 + k.val, by
      have := s.isLt; have := k.isLt; omega⟩) fun s k hl => rfl)
    refine Finset.sum_congr rfl fun s _ => ?_
    have hs := s.isLt
    rw [part_at m c _ y j (by simp only; omega) h1]
    refine Finset.sum_congr rfl fun k _ => congrArg (slice m c j) (Fin.ext ?_)
    simp only
    omega

theorem final (c : Dev nD) : (dats m 0 c).arrAt 4 (cfgs 0).N = REF (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hN : t.val < 256 := lt_of_lt_of_eq t.isLt N_0
  rw [after0_4, Pipeline.eq_sum_fin_of_reset_step_apply_of_flush (fun n h => (outsAt0 m c n h).1) 4 (fun _ => (0 : EReal)) (term m c)
    (fun t h j => by
      unfold term base
      rw [if_pos h, outsAt0_A m c t h]; frame_out; rw [pay2_at, zero_add])
    (fun t h j => by
      unfold term base
      rw [if_neg h, zero_add, outsAt0_B m c t h]; frame_out; rw [pay2_at]; unfold sout0_B_0
      exact congrArg (fun z => _ + part z _ _ j) (Memref.IsWhole.read_unread _ _))
    t ((flush0_4 t).mp hf) _, zero_add]
  have hr := (flush0_4 t).mp hf
  obtain_idx j : Cert.Reference2Ideal.S65536x1024 := [t.val / 4 * 1024 + (y 0 : ℕ), (y 1 : ℕ)] with hj
  have hy : (win0_4.blk t).view.emb y = j := by blk_ext [idx_val t]
  rw [hy, sum_term m c t hr y j hj0 hj1]
  unfold slice
  pointwise [REF]

end Cert.Kernel2Ideal.Value2

end
-- ==== Proof.Value3.lean ====
/- The gated merge call: the array the kernel leaves is the reference's, index by index. -/
module

public import proofs.«01_k».proof.Proof.Gen.Kernel3Ideal.Value
public import proofs.«01_k».proof.Proof.Gen.Reference3Ideal
public import Idealize.ShloMosaic.Lib.Pipeline.Value
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value3

open Cert.Kernel3Ideal Cert.Kernel3Ideal.Gen

section Ref
open Cert.Reference3Ideal Cert.Reference3Ideal.Gen

/-- The three gates, as the reference computes them. -/
abbrev GATE (p : FVec Ideal S65536x8448 .bf16) : FVec Ideal S65536x3x1024 .f32 :=
  Host.divf (broadcastInDim S65536x3x1024 ![] bcast_S_S65536x3x1024 (constant S_ .f32 0x3F800000#32))
    (addf (broadcastInDim S65536x3x1024 ![] bcast_S_S65536x3x1024 (constant S_ .f32 0x3F800000#32))
      (Host.exp (Host.negf (shapeCast S65536x3x1024 (extf .f32
        (extractStridedSlice S65536x3072 ![0, 5120] p slices_S65536x8448_S65536x3072_0_5120)
        Cert.Reference3Ideal.Gen.bitsLt_bf16_f32) shapeCasts_S65536x3072_S65536x3x1024))))

/-- One branch's values times its weights. -/
abbrev BR (o : FVec Ideal S8x8192x512 .bf16) (w : FVec Ideal S1x512x1024 .f32) : FVec Ideal S65536x1024 .f32 :=
  Host.dotGeneral dot_S65536x512_S512x1024_S65536x1024_1_0_0_1_n_n none
    (shapeCast S65536x512 (extf .f32 o Cert.Reference3Ideal.Gen.bitsLt_bf16_f32) Cert.Reference3Ideal.Gen.shapeCasts_S8x8192x512_S65536x512)
    (shapeCast S512x1024 w Cert.Reference3Ideal.Gen.shapeCasts_S1x512x1024_S512x1024)

/-- The gated sum of the three branches. -/
abbrev MERGED (o0 o1 o2 : FVec Ideal S8x8192x512 .bf16) (p : FVec Ideal S65536x8448 .bf16)
    (wb : FVec Ideal S3x512x1024 .f32) : FVec Ideal S65536x1024 .f32 :=
  addf (addf
    (mulf (shapeCast S65536x1024 (extractStridedSlice S65536x1x1024 ![0, 0, 0] (GATE p) slices_S65536x3x1024_S65536x1x1024_0_0_0)
        shapeCasts_S65536x1x1024_S65536x1024)
      (BR o0 (extractStridedSlice S1x512x1024 ![0, 0, 0] wb slices_S3x512x1024_S1x512x1024_0_0_0)))
    (mulf (shapeCast S65536x1024 (extractStridedSlice S65536x1x1024 ![0, 1, 0] (GATE p) slices_S65536x3x1024_S65536x1x1024_0_1_0)
        shapeCasts_S65536x1x1024_S65536x1024)
      (BR o1 (extractStridedSlice S1x512x1024 ![1, 0, 0] wb slices_S3x512x1024_S1x512x1024_1_0_0))))
    (mulf (shapeCast S65536x1024 (extractStridedSlice S65536x1x1024 ![0, 2, 0] (GATE p) slices_S65536x3x1024_S65536x1x1024_0_2_0)
        shapeCasts_S65536x1x1024_S65536x1024)
      (BR o2 (extractStridedSlice S1x512x1024 ![2, 0, 0] wb slices_S3x512x1024_S1x512x1024_2_0_0)))

/-- The reference's result. -/
abbrev REF (x : FVec Ideal S65536x1024 .f32) (o0 o1 o2 : FVec Ideal S8x8192x512 .bf16) (p : FVec Ideal S65536x8448 .bf16)
    (wb : FVec Ideal S3x512x1024 .f32) (wo : FVec Ideal S1024x1024 .f32) : FVec Ideal S65536x1024 .f32 :=
  addf x (Host.dotGeneral dot_S65536x1024_S1024x1024_S65536x1024_1_0_0_1_n_n none (MERGED o0 o1 o2 p wb) wo)

end Ref

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 5]
    ∧ win0_5.index t = ![t.val, 6]
    ∧ win0_6.index t = ![t.val, 7]
    ∧ win0_7.index t = ![0, 0, 0]
    ∧ win0_8.index t = ![0, 0]
    ∧ win0_9.index t = ![t.val, 0] :=
  (by decide +kernel : ∀ t : Fin grid0.N, _)

theorem x_at (c : Dev nD) (t : Fin cfg0.N) (y : S512x1024.Idx) (j : Cert.Reference3Ideal.S65536x1024.Idx)
    (h0 : (j 0 : ℕ) = t.val * 512 + y 0) (h1 : (j 1 : ℕ) = y 1) :
    iblk m c 0 t y = m ((c : Thread nD τ).loc main_arg0) j := by
  blk_point [iblk, V, idx_val t]

/-- The first branch's rows: the flattened sequences. -/
theorem oa_at (c : Dev nD) (t : Fin cfg0.N) (y : S512x512.Idx) (j : Cert.Reference3Ideal.S8x8192x512.Idx)
    (h0 : (j 0 : ℕ) = (t.val * 512 + y 0) / 8192) (h1 : (j 1 : ℕ) = (t.val * 512 + y 0) % 8192) (h2 : (j 2 : ℕ) = y 1) :
    iblk m c 1 t y = m ((c : Thread nD τ).loc main_arg1) j := by
  blk_simp [iblk, idx_val t]
  entry_read
  pointwise
  blk_ext [idx_val t]

theorem ob_at (c : Dev nD) (t : Fin cfg0.N) (y : S512x512.Idx) (j : Cert.Reference3Ideal.S8x8192x512.Idx)
    (h0 : (j 0 : ℕ) = (t.val * 512 + y 0) / 8192) (h1 : (j 1 : ℕ) = (t.val * 512 + y 0) % 8192) (h2 : (j 2 : ℕ) = y 1) :
    iblk m c 2 t y = m ((c : Thread nD τ).loc main_arg2) j := by
  blk_simp [iblk, idx_val t]
  entry_read
  pointwise
  blk_ext [idx_val t]

theorem oc_at (c : Dev nD) (t : Fin cfg0.N) (y : S512x512.Idx) (j : Cert.Reference3Ideal.S8x8192x512.Idx)
    (h0 : (j 0 : ℕ) = (t.val * 512 + y 0) / 8192) (h1 : (j 1 : ℕ) = (t.val * 512 + y 0) % 8192) (h2 : (j 2 : ℕ) = y 1) :
    iblk m c 3 t y = m ((c : Thread nD τ).loc main_arg3) j := by
  blk_simp [iblk, idx_val t]
  entry_read
  pointwise
  blk_ext [idx_val t]

/-- The three gates' blocks are columns of the projection, from 5120 on. -/
theorem ga_at (c : Dev nD) (t : Fin cfg0.N) (y : S512x1024.Idx) (j : Cert.Reference3Ideal.S65536x8448.Idx)
    (h0 : (j 0 : ℕ) = t.val * 512 + y 0) (h1 : (j 1 : ℕ) = 5120 + y 1) :
    X0_4 m c t y = m ((c : Thread nD τ).loc main_arg4) j := by
  unfold X0_4 Pipeline.Window.fill
  rw [dif_pos (moved0_4 t y)]
  blk_point [iblk, V, idx_val t]

theorem gb_at (c : Dev nD) (t : Fin cfg0.N) (y : S512x1024.Idx) (j : Cert.Reference3Ideal.S65536x8448.Idx)
    (h0 : (j 0 : ℕ) = t.val * 512 + y 0) (h1 : (j 1 : ℕ) = 5120 + (1024 + y 1)) :
    X0_5 m c t y = m ((c : Thread nD τ).loc main_arg4) j := by
  unfold X0_5 Pipeline.Window.fill
  rw [dif_pos (moved0_5 t y)]
  blk_point [iblk, V, idx_val t]

theorem gc_at (c : Dev nD) (t : Fin cfg0.N) (y : S512x1024.Idx) (j : Cert.Reference3Ideal.S65536x8448.Idx)
    (h0 : (j 0 : ℕ) = t.val * 512 + y 0) (h1 : (j 1 : ℕ) = 5120 + (2048 + y 1)) :
    X0_6 m c t y = m ((c : Thread nD τ).loc main_arg4) j := by
  unfold X0_6 Pipeline.Window.fill
  rw [dif_pos (moved0_6 t y)]
  blk_point [iblk, V, idx_val t]

theorem wb_at (c : Dev nD) (t : Fin cfg0.N) (y : S3x512x1024.Idx) :
    iblk m c 7 t y = m ((c : Thread nD τ).loc main_arg5) y := by
  blk_simp [iblk, idx_val t]
  entry_read
  pointwise
  blk_ext [idx_val t]

theorem wo_at (c : Dev nD) (t : Fin cfg0.N) (y : S1024x1024.Idx) :
    iblk m c 8 t y = m ((c : Thread nD τ).loc main_arg6) y := by
  blk_simp [iblk, idx_val t]
  entry_read
  pointwise
  blk_ext [idx_val t]

theorem zero_sub' (x : EReal) : (0 : EReal) - x = -x := by rw [sub_eq_add_neg, zero_add]

theorem block_at (c : Dev nD) (t : Fin cfg0.N) (y : S512x1024.Idx) (j : Cert.Reference3Ideal.S65536x1024.Idx)
    (h0 : (j 0 : ℕ) = t.val * 512 + y 0) (h1 : (j 1 : ℕ) = y 1) :
    outsAt0 m c t y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  unfold outsAt0
  frame_out
  pointwise [k0_pay1, k0_pay2, k0_pay3, k0_pay4, REF, MERGED, GATE, BR]
  have hj8 : (j 0 : ℕ) < 65536 := (j 0).isLt
  have e1 : y 1 = j 1 := Fin.ext h1.symm
  have hr : ∀ k : Fin 512, ∀ o : Cert.Reference3Ideal.S8x8192x512.Idx, o = ix3 ⟨(j 0 : ℕ) / 8192, by omega⟩ ⟨(j 0 : ℕ) % 8192, by omega⟩ k → (o 0 : ℕ) = (t.val * 512 + y 0) / 8192 ∧ (o 1 : ℕ) = (t.val * 512 + y 0) % 8192 ∧ (o 2 : ℕ) = k := by
    rintro k o rfl
    exact ⟨congrArg (· / 8192) h0, congrArg (· % 8192) h0, rfl⟩
  have hoa : ∀ k : Fin 512, iblk m c 1 t (ix2 (y 0) k) = m ((c : Thread nD τ).loc main_arg1) (ix3 ⟨(j 0 : ℕ) / 8192, by omega⟩ ⟨(j 0 : ℕ) % 8192, by omega⟩ k) :=
    fun k => oa_at m c t _ _ (hr k _ rfl).1 (hr k _ rfl).2.1 rfl
  have hob : ∀ k : Fin 512, iblk m c 2 t (ix2 (y 0) k) = m ((c : Thread nD τ).loc main_arg2) (ix3 ⟨(j 0 : ℕ) / 8192, by omega⟩ ⟨(j 0 : ℕ) % 8192, by omega⟩ k) :=
    fun k => ob_at m c t _ _ (hr k _ rfl).1 (hr k _ rfl).2.1 rfl
  have hoc : ∀ k : Fin 512, iblk m c 3 t (ix2 (y 0) k) = m ((c : Thread nD τ).loc main_arg3) (ix3 ⟨(j 0 : ℕ) / 8192, by omega⟩ ⟨(j 0 : ℕ) % 8192, by omega⟩ k) :=
    fun k => oc_at m c t _ _ (hr k _ rfl).1 (hr k _ rfl).2.1 rfl
  have hga : ∀ k : Fin 1024, X0_4 m c t (ix2 (y 0) k) = m ((c : Thread nD τ).loc main_arg4) (ix2 (j 0) ⟨5120 + k.val, by omega⟩) :=
    fun k => ga_at m c t _ _ h0 rfl
  have hgb : ∀ k : Fin 1024, X0_5 m c t (ix2 (y 0) k) = m ((c : Thread nD τ).loc main_arg4) (ix2 (j 0) ⟨5120 + (1024 + k.val), by omega⟩) :=
    fun k => gb_at m c t _ _ h0 rfl
  have hgc : ∀ k : Fin 1024, X0_6 m c t (ix2 (y 0) k) = m ((c : Thread nD τ).loc main_arg4) (ix2 (j 0) ⟨5120 + (2048 + k.val), by omega⟩) :=
    fun k => gc_at m c t _ _ h0 rfl
  simp only [hoa, hob, hoc, hga, hgb, hgc, wb_at, wo_at, zero_sub']
  rw [x_at m c t y j h0 h1, e1]

theorem final (c : Dev nD) : (dats m 0 c).arrAt 9 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  have ht : t.val < 128 := lt_of_lt_of_eq t.isLt N_0
  obtain_idx j : Cert.Reference3Ideal.S65536x1024 := [t.val * 512 + (y 0 : ℕ), (y 1 : ℕ)] with hj
  have hy : (win0_9.blk t).view.emb y = j := by blk_ext [idx_val t]
  rw [hy]
  exact block_at m c t y j hj0 hj1

end Cert.Kernel3Ideal.Value3

end
-- ==== Proof.Value4.lean ====
/- The normalized input projection: the array the kernel leaves is the reference's, index by index. -/
module

public import proofs.«01_k».proof.Proof.Gen.Kernel4Ideal.Value
public import proofs.«01_k».proof.Proof.Gen.Reference4Ideal
public import Idealize.ShloMosaic.Lib.Pipeline.Value
public import Idealize.ShloMosaic.Lib.Pipeline.ValueKit
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Value4

open Cert.Kernel4Ideal Cert.Kernel4Ideal.Gen

section Ref
open Cert.Reference4Ideal Cert.Reference4Ideal.Gen

/-- The normalized rows, as the reference computes them. -/
abbrev HN (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf
    (broadcastInDim S65536x1 ![0] bcast_S65536_S65536x1_0 (Host.reduceAdd (mulf x x) (constant S_ .f32 0x00000000#32)
      reducesTo_S65536x1024_S65536_d1 h_S_))
    (broadcastInDim S65536x1 ![] bcast_S_S65536x1 (constant S_ .f32 0x44800000#32)))
    (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The reference's result. -/
abbrev REF (x : FVec Ideal S65536x1024 .f32) (g : FVec Ideal S1024 .f32) (w : FVec Ideal S1024x8448 .bf16) :
    FVec Ideal S65536x8448 .bf16 :=
  truncf .bf16 (Host.dotGeneral dot_S65536x1024_S1024x8448_S65536x8448_1_0_0_1_n_n none (HN x g)
    (extf .f32 w Cert.Reference4Ideal.Gen.bitsLt_bf16_f32)) Cert.Reference4Ideal.Gen.bitsLt_bf16_f32

end Ref

variable (m : (ℓ : Loc nD τ sig) → Buf (Elt Ideal) ℓ)

theorem idx_val : ∀ t : Fin cfg0.N, win0_0.index t = ![t.val / 11, 0]
    ∧ win0_1.index t = ![0, 0]
    ∧ win0_2.index t = ![0, t.val % 11]
    ∧ win0_3.index t = ![t.val / 11, t.val % 11] :=
  (by decide +kernel : ∀ t : Fin grid0.N, _)

theorem x_at (c : Dev nD) (t : Fin cfg0.N) (y : S2048x1024.Idx) (j : Cert.Reference4Ideal.S65536x1024.Idx)
    (h0 : (j 0 : ℕ) = t.val / 11 * 2048 + y 0) (h1 : (j 1 : ℕ) = y 1) :
    iblk m c 0 t y = m ((c : Thread nD τ).loc main_arg0) j := by
  blk_point [iblk, V, idx_val t]

theorem g_at (c : Dev nD) (t : Fin cfg0.N) (y : S1x1024.Idx) (j : Cert.Reference4Ideal.S1024.Idx) (h1 : (j 0 : ℕ) = y 1) :
    iblk m c 1 t y = m ((c : Thread nD τ).loc main_arg1) j := by
  blk_simp [iblk, idx_val t]
  entry_read
  pointwise
  blk_ext [idx_val t]

/-- The normalized block the eleven points of one run share. -/
theorem hn_at (c : Dev nD) (t : Fin cfg0.N) (y : S2048x1024.Idx) (j : Cert.Reference4Ideal.S65536x1024.Idx)
    (h0 : (j 0 : ℕ) = t.val / 11 * 2048 + y 0) (h1 : (j 1 : ℕ) = y 1) :
    k0_pay1 (F := Ideal) (iblk m c 0 t) (iblk m c 1 t) y
      = HN (m ((c : Thread nD τ).loc main_arg0)) (m ((c : Thread nD τ).loc main_arg1)) j := by
  pointwise [k0_pay1, HN]
  have hx : ∀ k : Fin 1024, iblk m c 0 t (ix2 (y 0) k) = m ((c : Thread nD τ).loc main_arg0) (ix2 (j 0) k) :=
    fun k => x_at m c t _ _ h0 rfl
  simp only [hx]
  rw [x_at m c t y j h0 h1, g_at m c t (ix2 0 (y 1)) (ix1 (j 1)) h1]

/-- The scratch after each point holds its run's normalized block. -/
theorem scratch_at (c : Dev nD) : ∀ (n : ℕ) (hn : n < cfg0.N) (y : S2048x1024.Idx) (j : Cert.Reference4Ideal.S65536x1024.Idx),
    (j 0 : ℕ) = n / 11 * 2048 + y 0 → (j 1 : ℕ) = y 1 →
    (outsAt0 m c n hn).2 y = HN (m ((c : Thread nD τ).loc main_arg0)) (m ((c : Thread nD τ).loc main_arg1)) j := by
  intro n
  induction n with
  | zero =>
    intro hn y j h0 h1
    rw [outsAt0_A m c ⟨0, hn⟩ rfl]
    frame_out
    exact hn_at m c ⟨0, hn⟩ y j h0 h1
  | succ n ih =>
    intro hn y j h0 h1
    by_cases h : (n + 1) % 11 = 0
    · rw [outsAt0_A m c ⟨n + 1, hn⟩ h]
      frame_out
      exact hn_at m c ⟨n + 1, hn⟩ y j h0 h1
    · rw [outsAt0_B m c ⟨n + 1, hn⟩ h]
      frame_out
      exact ih (Nat.lt_of_succ_lt hn) y j (by omega) h1

/-- One block of the product, once its left factor is known to be the normalized rows. -/
theorem pay2_at (c : Dev nD) (t : Fin cfg0.N) (hn : FVec Ideal S2048x1024 .bf16)
    (h : ∀ (y : S2048x1024.Idx) (j : Cert.Reference4Ideal.S65536x1024.Idx),
      (j 0 : ℕ) = t.val / 11 * 2048 + y 0 → (j 1 : ℕ) = y 1 →
      hn y = HN (m ((c : Thread nD τ).loc main_arg0)) (m ((c : Thread nD τ).loc main_arg1)) j)
    (y : S2048x768.Idx) (j : Cert.Reference4Ideal.S65536x8448.Idx)
    (h0 : (j 0 : ℕ) = t.val / 11 * 2048 + y 0) (h1 : (j 1 : ℕ) = t.val % 11 * 768 + y 1) :
    k0_pay2 (F := Ideal) hn (iblk m c 2 t) y
      = REF (m ((c : Thread nD τ).loc main_arg0)) (m ((c : Thread nD τ).loc main_arg1)) (m ((c : Thread nD τ).loc main_arg2)) j := by
  have hh : ∀ k : Fin 1024, hn (ix2 (y 0) k)
      = HN (m ((c : Thread nD τ).loc main_arg0)) (m ((c : Thread nD τ).loc main_arg1)) (ix2 (j 0) k) :=
    fun k => h _ _ h0 rfl
  have hw : ∀ k : Fin 1024, iblk m c 2 t (ix2 k (y 1)) = m ((c : Thread nD τ).loc main_arg2) (ix2 k (j 1)) := fun k => by
    blk_point [iblk, V, idx_val t]
  pointwise [k0_pay2]
  simp only [hh, hw]
  pointwise [REF]

theorem final (c : Dev nD) : (dats m 0 c).arrAt 3 (cfgs 0).N = REF (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 352 := lt_of_lt_of_eq t.isLt N_0
  obtain_idx j : Cert.Reference4Ideal.S65536x8448 := [t.val / 11 * 2048 + (y 0 : ℕ), t.val % 11 * 768 + (y 1 : ℕ)] with hj
  have hy : (win0_3.blk t).view.emb y = j := by blk_ext [idx_val t]
  rw [hy]
  by_cases h : t.val % 11 = 0
  · rw [outsAt0_A m c t h]
    frame_out
    exact pay2_at m c t _ (hn_at m c t) y j hj0 hj1
  · rw [outsAt0_B m c t h]
    frame_out
    refine pay2_at m c t _ (fun y' j' h0' h1' => ?_) y j hj0 hj1
    exact (congrFun (Memref.IsWhole.read_unread _ _) y').trans
      (scratch_at m c (t.val - 1) _ y' j' (by omega) h1')

end Cert.Kernel4Ideal.Value4

end
-- ==== Proof.Solve.lean ====
/- A unit lower triangular system `(1 + A) x = b` in two ways: by doubling, `T = (1 - A)(1 + A²)(1 + A⁴)⋯`, which is the
   inverse of `1 + A` because a strictly lower triangular matrix of 64 rows has `A ^ 64 = 0`; and by forward substitution,
   row after row. Over the reals, where both are the one solution. -/
module

public import Mathlib.Data.Matrix.Mul
public import Mathlib.Data.Real.Basic
public import Mathlib.Tactic.NoncommRing
public import Mathlib.Algebra.BigOperators.Fin
public import Mathlib.Tactic.Linarith

@[expose] public section

noncomputable section

namespace Cert.Solve

/-- The square matrices of one chunk. -/
abbrev Mat : Type := Matrix (Fin 64) (Fin 64) ℝ

/-- Zero on and above the diagonal. -/
def Lower (A : Mat) : Prop := ∀ i j, i ≤ j → A i j = 0

/-- The `n`-th power of a strictly lower triangular matrix vanishes less than `n` below the diagonal. -/
theorem Lower.pow_apply {A : Mat} (h : Lower A) : ∀ (n : ℕ) (i j : Fin 64), i.val < j.val + n → (A ^ n) i j = 0
  | 0, i, j, hij => by
      rw [pow_zero, Matrix.one_apply, if_neg]
      rintro rfl; omega
  | n + 1, i, j, hij => by
      rw [pow_succ, Matrix.mul_apply]
      refine Finset.sum_eq_zero fun s _ => ?_
      by_cases hs : s ≤ j
      · rw [h s j hs, mul_zero]
      · have hs' : j.val < s.val := by simpa using hs
        rw [h.pow_apply n i s (by omega), zero_mul]

theorem Lower.pow_64 {A : Mat} (h : Lower A) : A ^ 64 = 0 := by
  ext i j
  have hi := i.isLt
  simpa using h.pow_apply 64 i j (by omega)

theorem Lower.neg {A : Mat} (h : Lower A) : Lower (-A) := fun i j hij => by
  rw [Matrix.neg_apply, h i j hij, neg_zero]

/-- The doubling: `P` squared `n` times. -/
def sq (P : Mat) : ℕ → Mat
  | 0 => P
  | n + 1 => sq P n * sq P n

/-- The doubling's partial product `(1 + P)(1 + P²)⋯`. -/
def dbl (P : Mat) : ℕ → Mat
  | 0 => 1 + P
  | n + 1 => dbl P n + dbl P n * sq P (n + 1)

theorem sq_eq (P : Mat) : ∀ n, sq P n = P ^ (2 ^ n)
  | 0 => by simp [sq]
  | n + 1 => by rw [sq, sq_eq P n, ← pow_add]; congr 1; omega

theorem sub_mul_dbl (P : Mat) : ∀ n, (1 - P) * dbl P n = 1 - P ^ (2 ^ (n + 1))
  | 0 => by
      rw [dbl, mul_add, mul_one, sub_mul, one_mul, show 2 ^ (0 + 1) = 1 + 1 from rfl, pow_succ, pow_one]; abel
  | n + 1 => by
      have e : P ^ (2 ^ (n + 1 + 1)) = P ^ (2 ^ (n + 1)) * P ^ (2 ^ (n + 1)) := by
        rw [← pow_add]; congr 1; omega
      rw [dbl, mul_add, ← mul_assoc, sub_mul_dbl P n, sq_eq, e]; noncomm_ring

/-- Five doublings of `-A` invert `1 + A`. -/
theorem add_mul_dbl {A : Mat} (h : Lower A) : (1 + A) * dbl (-A) 5 = 1 := by
  have e := sub_mul_dbl (-A) 5
  rw [sub_neg_eq_add] at e
  rw [e, show 2 ^ (5 + 1) = 64 from rfl, h.neg.pow_64, sub_zero]

/-- Row `i` of the doubling's solution, from its other rows. -/
theorem dbl_row {A : Mat} (h : Lower A) (b : Fin 64 → ℝ) (i : Fin 64) :
    (∑ s, dbl (-A) 5 i s * b s) = b i - ∑ s, A i s * ∑ r, dbl (-A) 5 s r * b r := by
  have e := congrArg (fun M : Mat => ∑ r, M i r * b r) (add_mul_dbl h)
  simp only [add_mul, one_mul, Matrix.add_apply, Matrix.mul_apply, Matrix.one_apply, Finset.sum_add_distrib,
    ite_mul, zero_mul, Finset.sum_ite_eq, Finset.mem_univ, if_true] at e
  rw [← e]
  have e2 : (∑ r, (∑ s, A i s * dbl (-A) 5 s r) * b r) = ∑ s, A i s * ∑ r, dbl (-A) 5 s r * b r := by
    simp only [Finset.sum_mul, Finset.mul_sum]
    rw [Finset.sum_comm]
    exact Finset.sum_congr rfl fun s _ => Finset.sum_congr rfl fun r _ => mul_assoc _ _ _
  rw [e2, add_sub_cancel_right]

/-- The solution with its rows from the `n`-th on still zero. -/
def upTo (A : Mat) (b : Fin 64 → ℝ) (n : ℕ) (i : Fin 64) : ℝ := if i.val < n then ∑ s, dbl (-A) 5 i s * b s else 0

/-- Row `n` of forward substitution, from the rows before it. -/
theorem upTo_row {A : Mat} (h : Lower A) (b : Fin 64 → ℝ) (i : Fin 64) :
    b i - ∑ s, A i s * upTo A b i.val s = ∑ s, dbl (-A) 5 i s * b s := by
  rw [dbl_row h b i]
  congr 1
  refine Finset.sum_congr rfl fun s _ => ?_
  unfold upTo
  by_cases hs : s.val < i.val
  · rw [if_pos hs]
  · rw [if_neg hs, h i s (by simpa using hs), zero_mul, zero_mul]

end Cert.Solve

end
-- ==== Proof.Gdn.lean ====
/- One head's gated delta rule, a chunk of 64 tokens at a time: the mathematics both sides compute, on the extended reals. -/
module

public import proofs.«01_k».proof.Proof.Solve
public import Mathlib.Data.EReal.Operations

@[expose] public section

noncomputable section

namespace Cert.Gdn

open Cert.Solve
open scoped BigOperators

abbrev Sq : Type := Fin 64 → Fin 64 → EReal
abbrev Rows : Type := Fin 64 → Fin 128 → EReal
abbrev St : Type := Fin 128 → Fin 128 → EReal

/-- A chunk's inputs, one head. -/
structure Chunk where
  q : Rows
  k : Rows
  kb : Rows
  vb : Rows
  kbe : Rows
  qg : Rows
  kg : Rows
  dec : Sq
  g : Fin 128 → EReal

/-- The chunk's strictly lower triangular system. -/
def Chunk.a (D : Chunk) : Sq := fun i j => if j < i then (∑ d, D.kb i d * D.k j d) * D.dec i j else 0

/-- The repeated squares of `p`, and the partial products. -/
def pt (p : Sq) : ℕ → Sq × Sq
  | 0 => (p, fun i j => (if i = j then 1 else 0) + p i j)
  | n + 1 => (fun i j => ∑ s, (pt p n).1 i s * (pt p n).1 s j,
      fun i j => (pt p n).2 i j + ∑ s, (pt p n).2 i s * ∑ r, (pt p n).1 s r * (pt p n).1 r j)

/-- The inverse of the unit lower triangular system. -/
def Chunk.t (D : Chunk) : Sq := (pt (fun i j => 0 - D.a i j) 5).2
def Chunk.u (D : Chunk) : Rows := fun i d => ∑ s, D.t i s * D.vb s d
def Chunk.w (D : Chunk) : Rows := fun i d => ∑ s, D.t i s * D.kbe s d
/-- The corrected values. -/
def Chunk.vn (D : Chunk) (S : St) : Rows := fun i d => D.u i d - ∑ e, D.w i e * S e d
/-- What the state before the chunk gives. -/
def Chunk.qs (D : Chunk) (S : St) : Rows := fun i d => ∑ e, D.qg i e * S e d
/-- The outputs before the normalization. -/
def Chunk.o (D : Chunk) (S : St) : Rows := fun i d =>
  D.qs S i d + ∑ s, ((∑ e, D.q i e * D.k s e) * D.dec i s) * D.vn S s d
/-- The next state. -/
def Chunk.next (D : Chunk) (S : St) : St := fun e d => S e d * D.g d + ∑ s, D.kg s e * D.vn S s d

/-- The state before chunk `n`. -/
def state (D : ℕ → Chunk) : ℕ → St
  | 0 => fun _ _ => 0
  | n + 1 => (D n).next (state D n)

theorem coe_sum {n : ℕ} (f : Fin n → ℝ) : ((∑ i, f i : ℝ) : EReal) = ∑ i, (f i : EReal) := by
  classical
  refine Finset.induction_on (Finset.univ : Finset (Fin n)) (by simp) ?_
  intro a s ha ih
  rw [Finset.sum_insert ha, Finset.sum_insert ha, EReal.coe_add, ih]

theorem pt_coe (P : Mat) (p : Sq) (h : ∀ i j, p i j = ((P i j : ℝ) : EReal)) : ∀ n i j,
    (pt p n).1 i j = ((sq P n i j : ℝ) : EReal) ∧ (pt p n).2 i j = ((dbl P n i j : ℝ) : EReal)
  | 0, i, j => by
      refine ⟨h i j, ?_⟩
      show (if i = j then (1 : EReal) else 0) + p i j = _
      show _ = (((1 + P : Mat) i j : ℝ) : EReal)
      rw [h, Matrix.add_apply, EReal.coe_add, Matrix.one_apply]
      split <;> simp
  | n + 1, i, j => by
      have h1 := fun i j => (pt_coe P p h n i j).1
      have h2 := fun i j => (pt_coe P p h n i j).2
      have e1 : ∀ i j, ∑ s, (pt p n).1 i s * (pt p n).1 s j = ((sq P (n + 1) i j : ℝ) : EReal) := fun i j => by
        show _ = (((sq P n * sq P n) i j : ℝ) : EReal)
        rw [Matrix.mul_apply, coe_sum]
        exact Finset.sum_congr rfl fun s _ => by rw [h1, h1, EReal.coe_mul]
      refine ⟨e1 i j, ?_⟩
      show (pt p n).2 i j + ∑ s, (pt p n).2 i s * ∑ r, (pt p n).1 s r * (pt p n).1 r j = _
      show _ = (((dbl P n + dbl P n * sq P (n + 1)) i j : ℝ) : EReal)
      rw [Matrix.add_apply, EReal.coe_add, h2, Matrix.mul_apply, coe_sum]
      congr 1
      exact Finset.sum_congr rfl fun s _ => by rw [h2, e1, EReal.coe_mul]

/-- Where the keys and the decays are real, so is the system. -/
theorem Chunk.a_coe (D : Chunk) (hk : ∀ i d, ∃ r : ℝ, D.k i d = r) (hkb : ∀ i d, ∃ r : ℝ, D.kb i d = r)
    (hd : ∀ i j, ∃ r : ℝ, D.dec i j = r) : ∃ A : Mat, Lower A ∧ ∀ i j, D.a i j = ((A i j : ℝ) : EReal) := by
  choose k hk using hk
  choose kb hkb using hkb
  choose dec hd using hd
  refine ⟨fun i j => if j < i then (∑ d, kb i d * k j d) * dec i j else 0, fun i j hij => if_neg (not_lt.mpr hij), fun i j => ?_⟩
  unfold Chunk.a
  dsimp only
  split
  · rw [EReal.coe_mul, coe_sum, hd]
    congr 1
    exact Finset.sum_congr rfl fun d _ => by rw [hk, hkb, EReal.coe_mul]
  · rfl

/-- Row `i` of the substitution, from the rows before it: the doubling's row. -/
theorem Chunk.row (D : Chunk) (hk : ∀ i d, ∃ r : ℝ, D.k i d = r) (hkb : ∀ i d, ∃ r : ℝ, D.kb i d = r)
    (hd : ∀ i j, ∃ r : ℝ, D.dec i j = r) (b : Fin 64 → EReal) (hb : ∀ i, ∃ r : ℝ, b i = r) (i : Fin 64)
    (x : Fin 64 → EReal) (hx : ∀ s, s < i → x s = ∑ r, D.t s r * b r) :
    b i - ∑ s, D.a i s * x s = ∑ r, D.t i r * b r := by
  obtain ⟨A, hA, ha⟩ := D.a_coe hk hkb hd
  choose b' hb using hb
  have ht : ∀ i j, D.t i j = ((dbl (-A) 5 i j : ℝ) : EReal) := fun i j =>
    (pt_coe (-A) _ (fun i j => by rw [ha, Matrix.neg_apply, EReal.coe_neg, zero_sub]) 5 i j).2
  have hs : ∀ i, ∑ r, D.t i r * b r = ((∑ s, dbl (-A) 5 i s * b' s : ℝ) : EReal) := fun i => by
    rw [coe_sum]
    exact Finset.sum_congr rfl fun s _ => by rw [ht, hb, EReal.coe_mul]
  rw [hs, ← upTo_row hA b' i, EReal.coe_sub, coe_sum, hb]
  congr 1
  refine Finset.sum_congr rfl fun s _ => ?_
  rw [ha, EReal.coe_mul]
  by_cases h : s < i
  · rw [hx s h, hs]
    have e : upTo A b' i.val s = ∑ r, dbl (-A) 5 s r * b' r := if_pos h
    rw [e]
  · rw [hA i s (not_lt.mp h), EReal.coe_zero, zero_mul, zero_mul]

end Cert.Gdn

end
-- ==== Proof.GdnData.lean ====
/- The chunks of one sequence and one head, read out of the whole arrays. -/
module

public import proofs.«01_k».proof.Proof.Gdn
public import Idealize.ShloMosaic.Lib.Pointwise
public import Idealize.ShloMosaic.Lib.Affine
public import Idealize.ShloMosaic.Lib.DynamicIndex

@[expose] public section

noncomputable section

open Idealize.ShloMosaic
open scoped BigOperators

namespace Cert.Gdn

abbrev A512 : Type := FVec Ideal ⟨3, ![8, 8192, 512]⟩ .bf16
abbrev A256 : Type := FVec Ideal ⟨3, ![8, 8192, 256]⟩ .f32
abbrev AG : Type := FVec Ideal ⟨3, ![8, 128, 512]⟩ .f32

/-- Token `i` of chunk `n`. -/
def tk (n : ℕ) (i : Fin 64) : Fin 8192 := ⟨(64 * n + i.val) % 8192, Nat.mod_lt _ (by norm_num)⟩
/-- Channel `d` of head `h`. -/
def cl (h : Fin 4) (d : Fin 128) : Fin 512 := ⟨128 * h.val + d.val, by omega⟩
/-- Position `j` of head `h`. -/
def cs (h : Fin 4) (j : Fin 64) : Fin 256 := ⟨64 * h.val + j.val, by omega⟩

/-- The arrays of one layer. -/
structure Arrs where
  q : A512
  k : A512
  kb : A512
  vb : A512
  kbe : A512
  qg : A512
  kg : A512
  dec : A256
  g : AG

/-- Chunk `n` of sequence `b`, head `h`. -/
def Arrs.D (X : Arrs) (b : Fin 8) (h : Fin 4) (n : ℕ) : Chunk where
  q i d := X.q (ix3 b (tk n i) (cl h d))
  k i d := X.k (ix3 b (tk n i) (cl h d))
  kb i d := X.kb (ix3 b (tk n i) (cl h d))
  vb i d := X.vb (ix3 b (tk n i) (cl h d))
  kbe i d := X.kbe (ix3 b (tk n i) (cl h d))
  qg i d := X.qg (ix3 b (tk n i) (cl h d))
  kg i d := X.kg (ix3 b (tk n i) (cl h d))
  dec i j := X.dec (ix3 b (tk n i) (cs h j))
  g d := X.g (ix3 b ⟨n % 128, Nat.mod_lt _ (by norm_num)⟩ (cl h d))

/-- The state before chunk `n`. -/
def Arrs.S (X : Arrs) (b : Fin 8) (h : Fin 4) (n : ℕ) : St := state (X.D b h) n

/-- The arrays the system and its right sides are made of hold real numbers. -/
structure Arrs.Real (X : Arrs) : Prop where
  k : ∀ y, ∃ r : ℝ, X.k y = (r : EReal)
  kb : ∀ y, ∃ r : ℝ, X.kb y = (r : EReal)
  vb : ∀ y, ∃ r : ℝ, X.vb y = (r : EReal)
  kbe : ∀ y, ∃ r : ℝ, X.kbe y = (r : EReal)
  dec : ∀ y, ∃ r : ℝ, X.dec y = (r : EReal)

/-- Entry `d` of a head's outputs, normalized by their mean square, weighted and gated. -/
def norm (o : Fin 128 → EReal) (d : Fin 128) (nw z : EReal) : EReal :=
  o d * Ideal.rsqrt (Ideal.div (∑ e, o e * o e) (Ideal.ofBits FTy.f32 1124073472#32) + Ideal.ofBits FTy.f32 897988541#32) * nw * z

/-- The layer's output. -/
def Arrs.out (X : Arrs) (zs : A512) (nw : FVec Ideal ⟨1, ![128]⟩ .f32) (b : Fin 8) (t : Fin 8192) (c : Fin 512) : EReal :=
  norm ((X.D b ⟨c.val / 128, by omega⟩ (t.val / 64)).o (X.S b ⟨c.val / 128, by omega⟩ (t.val / 64)) ⟨t.val % 64, Nat.mod_lt _ (by norm_num)⟩)
    ⟨c.val % 128, Nat.mod_lt _ (by norm_num)⟩ (nw (ix1 ⟨c.val % 128, Nat.mod_lt _ (by norm_num)⟩)) (zs (ix3 b t c))

/-- One more term of a sum cut at `i`. -/
theorem sum_cut (f : Fin 64 → EReal) (i : Fin 64) :
    (∑ r, if r.val < i.val then f r else 0) + f i = ∑ r, if r.val < i.val + 1 then f r else 0 := by
  have e : f i = ∑ r, if r = i then f r else 0 := by rw [Finset.sum_ite_eq' Finset.univ i f, if_pos (Finset.mem_univ _)]
  rw [e, ← Finset.sum_add_distrib]
  refine Finset.sum_congr rfl fun r _ => ?_
  by_cases h : r.val < i.val
  · rw [if_pos h, if_neg (fun e => by subst e; exact lt_irrefl _ h), if_pos (by omega), add_zero]
  · by_cases h2 : r = i
    · subst h2; rw [if_neg h, if_pos rfl, if_pos (by omega), zero_add]
    · have : r.val ≠ i.val := fun e => h2 (Fin.ext e)
      rw [if_neg h, if_neg h2, if_neg (by omega), add_zero]

/-- A scalar select on the equality of two small words. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  by_cases h : a = b
  · subst h
    rw [if_pos rfl]
    simp [Scalar.select, IntOp.cmpi]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    have hb' : (BitVec.ofNat 32 a == BitVec.ofNat 32 b) = false := beq_eq_false_iff_ne.mpr hne
    simp [Scalar.select, IntOp.cmpi, hb']

/-- The same of a comparison. -/
theorem sgt_eq {α : Type} (a b : ℕ) (ha : a < 2 ^ 31) (hb : b < 2 ^ 31) (x y : α) :
    Scalar.select (IntOp.cmpi .sgt (BitVec.ofNat 32 a) (BitVec.ofNat 32 b)) x y = if b < a then x else y := by
  have h : IntOp.cmpi .sgt (BitVec.ofNat 32 a) (BitVec.ofNat 32 b) = 1#1 ↔ b < a := by
    rw [IntOp.cmpi_sgt, toInt_ofNat_of_lt ha, toInt_ofNat_of_lt hb, Nat.cast_lt]
  unfold Scalar.select
  by_cases hlt : b < a
  · rw [if_pos hlt]; exact if_pos (h.mpr hlt)
  · rw [if_neg hlt]; exact if_neg (fun e => hlt (h.mp e))

end Cert.Gdn

end
-- ==== Proof.GdnRef.lean ====
/- The token scan of the reference: after `64 c + i` tokens it holds the chunk recurrence's values. -/
module

public import proofs.«01_k».proof.Proof.GdnData
public import proofs.«01_k».proof.Proof.Gen.ReferenceIdeal.Step
public import Idealize.ShloMosaic.Lib.Pointwise
public import Idealize.ShloMosaic.Lib.Pipeline.Value
public import Idealize.ShloMosaic.Lib.DynamicIndex

@[expose] public section

set_option maxRecDepth 16384

noncomputable section

open Idealize.ShloMosaic Idealize.ShloMosaic.TcCoe Idealize.SL.Sem
open scoped BigOperators

namespace Cert.ReferenceIdeal.GdnRef

open Cert.ReferenceIdeal Cert.ReferenceIdeal.Gen Cert.ReferenceIdeal.Step Cert.Gdn

/-- The starts of the row a trip reads: the token, then nothing. -/
theorem starts (j : ℕ) (hj : j < 8192) (x : S_.Idx) (a : Fin 4) :
    ((![(constantI S_ 32 (BitVec.ofNat 32 j) : IVec S_ 32), constantI S_ 32 0#32, constantI S_ 32 0#32, constantI S_ 32 0#32] : Fin 4 → IVec S_ 32) a x).toInt
      = ((![j, 0, 0, 0] : Fin 4 → ℕ) a : ℤ) := by
  fin_cases a
  · exact toInt_ofNat_of_lt (by omega)
  · rfl
  · rfl
  · rfl

theorem slices128 {j : ℕ} (hj : j < 8192) : S8192x8x4x128.Slices ![j, 0, 0, 0] S1x8x4x128 :=
  ⟨rfl, fun a => by fin_cases a <;> simp [S8192x8x4x128, S1x8x4x128] <;> omega⟩

theorem slices64 {j : ℕ} (hj : j < 8192) : S8192x8x4x64.Slices ![j, 0, 0, 0] S1x8x4x64 :=
  ⟨rfl, fun a => by fin_cases a <;> simp [S8192x8x4x64, S1x8x4x64] <;> omega⟩

theorem slices1 {j : ℕ} (hj : j < 8192) : S8192.Slices ![j] S1 :=
  ⟨rfl, fun a => by fin_cases a; simp [S8192, S1]; omega⟩

theorem row128 (X : FVec Ideal S8192x8x4x128 .f32) (j : ℕ) (hj : j < 8192) (start : Fin 4 → ℤ)
    (hs : ∀ a, start a = ((![j, 0, 0, 0] : Fin 4 → ℕ) a : ℤ)) (b : Fin 8) (h : Fin 4) (d : Fin 128) :
    shapeCast S8x4x128 (Host.dynamicSlice S1x8x4x128 X start sliceFits_S8192x8x4x128_S1x8x4x128) shapeCasts_S1x8x4x128_S8x4x128 (ix3 b h d)
      = X (ix4 ⟨j, hj⟩ b h d) := by
  rw [Host.dynamicSlice_eq_extractStridedSlice _ _ _ ![j, 0, 0, 0] _ (slices128 hj) hs]
  pointwise

theorem row64 (X : FVec Ideal S8192x8x4x64 .f32) (j : ℕ) (hj : j < 8192) (start : Fin 4 → ℤ)
    (hs : ∀ a, start a = ((![j, 0, 0, 0] : Fin 4 → ℕ) a : ℤ)) (b : Fin 8) (h : Fin 4) (d : Fin 64) :
    shapeCast S8x4x64 (Host.dynamicSlice S1x8x4x64 X start sliceFits_S8192x8x4x64_S1x8x4x64) shapeCasts_S1x8x4x64_S8x4x64 (ix3 b h d)
      = X (ix4 ⟨j, hj⟩ b h d) := by
  rw [Host.dynamicSlice_eq_extractStridedSlice _ _ _ ![j, 0, 0, 0] _ (slices64 hj) hs]
  pointwise

theorem upd128 (X : FVec Ideal S8192x8x4x128 .f32) (U : FVec Ideal S1x8x4x128 .f32) (j : ℕ) (hj : j < 8192) (start : Fin 4 → ℤ)
    (hs : ∀ a, start a = ((![j, 0, 0, 0] : Fin 4 → ℕ) a : ℤ)) (t : Fin 8192) (b : Fin 8) (h : Fin 4) (d : Fin 128) :
    Host.dynamicUpdateSlice X U start sliceFits_S8192x8x4x128_S1x8x4x128 (ix4 t b h d)
      = if t.val = j then U (ix4 0 b h d) else X (ix4 t b h d) := by
  rw [Host.dynamicUpdateSlice_eq_updateSlice X U start _ ![j, 0, 0, 0] (fun a => by
    have := hs a
    have := (slices128 hj).2 a
    fin_cases a <;> simp_all [S8192x8x4x128, S1x8x4x128] <;> omega) (slices128 hj)]
  pointwise
  by_cases h1 : t.val = j
  · rw [dif_pos ⟨by omega, by omega⟩, if_pos h1]
    congr 2
    exact Fin.ext (by simp [h1])
  · rw [dif_neg (fun h2 => h1 (by omega)), if_neg h1]

variable (s : State Ideal) (j : ℕ) (hj : j < 8192)
include hj

theorem a_at (b : Fin 8) (h : Fin 4) (d : Fin 64) : b6 j s (ix3 b h d) = s.main_v47_1 (ix4 ⟨j, hj⟩ b h d) :=
  row64 _ j hj _ (fun a => starts j hj _ a) b h d
theorem vb_at (b : Fin 8) (h : Fin 4) (d : Fin 128) : b11 j s (ix3 b h d) = s.main_v47_2 (ix4 ⟨j, hj⟩ b h d) :=
  row128 _ j hj _ (fun a => starts j hj _ a) b h d
theorem kbe_at (b : Fin 8) (h : Fin 4) (d : Fin 128) : b16 j s (ix3 b h d) = s.main_v47_3 (ix4 ⟨j, hj⟩ b h d) :=
  row128 _ j hj _ (fun a => starts j hj _ a) b h d
theorem qg_at (b : Fin 8) (h : Fin 4) (d : Fin 128) : b21 j s (ix3 b h d) = s.main_v47_4 (ix4 ⟨j, hj⟩ b h d) :=
  row128 _ j hj _ (fun a => starts j hj _ a) b h d
theorem kg_at (b : Fin 8) (h : Fin 4) (d : Fin 128) : b26 j s (ix3 b h d) = s.main_v47_5 (ix4 ⟨j, hj⟩ b h d) :=
  row128 _ j hj _ (fun a => starts j hj _ a) b h d
theorem g_at (b : Fin 8) (h : Fin 4) (d : Fin 128) : b31 j s (ix3 b h d) = s.main_v47_6 (ix4 ⟨j, hj⟩ b h d) :=
  row128 _ j hj _ (fun a => starts j hj _ a) b h d

/-- The token's position in its chunk. -/
theorem i_at (x : S_.Idx) : b1 (F := Ideal) j s x = BitVec.ofNat 32 (j % 64) := by
  have hs : ∀ a : Fin 1, ((![(constantI S_ 32 (BitVec.ofNat 32 j) : IVec S_ 32)] : Fin 1 → IVec S_ 32) a (Shape.Idx.first h_S_)).toInt
      = ((![j] : Fin 1 → ℕ) a : ℤ) := fun a => by fin_cases a; exact toInt_ofNat_of_lt (by omega)
  have e : b0 (F := Ideal) j s = extractStridedSlice S1 ![j] (K_main_v28 (F := Ideal)) (slices1 hj) := by
    unfold b0
    exact Host.dynamicSlice_eq_extractStridedSlice S1 (K_main_v28 (F := Ideal)) _ ![j] sliceFits_S8192_S1 (slices1 hj) hs
  pointwise [b1, e, K_main_v28, K_main_v27, K_main_v0]

theorem new_at (b : Fin 8) (h : Fin 4) (e d : Fin 128) :
    b35 j s (ix4 b h e d) = if j % 64 = 0 then s.main_v47_12 (ix4 b h e d) else s.main_v47_11 (ix4 b h e d) := by
  pointwise [b35, b34, b33, b32, i_at s j hj]
  exact sel_eq (j % 64) 0 (by omega) (by omega) _ _

theorem after_at (b : Fin 8) (h : Fin 4) (e d : Fin 128) :
    b42 j s (ix4 b h e d) = if j % 64 = 0 then s.main_v47_12 (ix4 b h e d) * s.main_v47_6 (ix4 ⟨j, hj⟩ b h d)
      else s.main_v47_12 (ix4 b h e d) := by
  pointwise [b42, b41, b40, b39, b38, b37, b36, i_at s j hj, g_at s j hj, b35, b34, b33, b32]
  rw [sel_eq (j % 64) 0 (by omega) (by omega), sel_eq (j % 64) 0 (by omega) (by omega)]
  by_cases h : j % 64 = 0
  · rw [if_pos h, if_pos h, if_pos h]
  · rw [if_neg h, if_neg h]

theorem u_at (b : Fin 8) (h : Fin 4) (d : Fin 128) :
    b44 j s (ix3 b h d) = s.main_v47_2 (ix4 ⟨j, hj⟩ b h d)
      - ∑ r : Fin 64, s.main_v47_1 (ix4 ⟨j, hj⟩ b h r) * s.main_v47_9 (ix4 b h r d) := by
  pointwise [b44, b43, a_at s j hj, vb_at s j hj]

theorem w_at (b : Fin 8) (h : Fin 4) (d : Fin 128) :
    b46 j s (ix3 b h d) = s.main_v47_3 (ix4 ⟨j, hj⟩ b h d)
      - ∑ r : Fin 64, s.main_v47_1 (ix4 ⟨j, hj⟩ b h r) * s.main_v47_10 (ix4 b h r d) := by
  pointwise [b46, b45, a_at s j hj, kbe_at s j hj]

theorem us_at (b : Fin 8) (h : Fin 4) (r : Fin 64) (d : Fin 128) :
    b53 j s (ix4 b h r d) = if r.val = j % 64 then b44 j s (ix3 b h d) else s.main_v47_9 (ix4 b h r d) := by
  pointwise [b53, b52, b51, b50, b49, b48, b47, K_main_v0, i_at s j hj]
  exact sel_eq r.val (j % 64) (by omega) (by omega) _ _

theorem ws_at (b : Fin 8) (h : Fin 4) (r : Fin 64) (d : Fin 128) :
    b56 j s (ix4 b h r d) = if r.val = j % 64 then b46 j s (ix3 b h d) else s.main_v47_10 (ix4 b h r d) := by
  pointwise [b56, b55, b54, b50, b49, b48, b47, K_main_v0, i_at s j hj]
  exact sel_eq r.val (j % 64) (by omega) (by omega) _ _

theorem v_at (b : Fin 8) (h : Fin 4) (d : Fin 128) :
    b58 j s (ix3 b h d) = b44 j s (ix3 b h d) - ∑ e : Fin 128, b46 j s (ix3 b h e) * b35 j s (ix4 b h e d) := by
  pointwise [b58, b57]

theorem after'_at (b : Fin 8) (h : Fin 4) (e d : Fin 128) :
    b64 j s (ix4 b h e d) = b42 j s (ix4 b h e d) + s.main_v47_5 (ix4 ⟨j, hj⟩ b h e) * b58 j s (ix3 b h d) := by
  pointwise [b64, b63, b62, b61, b60, b59, kg_at s j hj]

theorem vs_at (t : Fin 8192) (b : Fin 8) (h : Fin 4) (d : Fin 128) :
    b70 j s (ix4 t b h d) = if t.val = j then b58 j s (ix3 b h d) else s.main_v47_13 (ix4 t b h d) := by
  refine (upd128 _ _ j hj _ (fun a => starts j hj _ a) t b h d).trans ?_
  pointwise [b66]

theorem os_at (t : Fin 8192) (b : Fin 8) (h : Fin 4) (d : Fin 128) :
    b75 j s (ix4 t b h d) = if t.val = j then ∑ e : Fin 128, s.main_v47_4 (ix4 ⟨j, hj⟩ b h e) * b35 j s (ix4 b h e d)
      else s.main_v47_14 (ix4 t b h d) := by
  refine (upd128 _ _ j hj _ (fun a => starts j hj _ a) t b h d).trans ?_
  pointwise [b71, b65, qg_at s j hj]

omit hj

/-- What the scan's constant arrays hold. -/
structure Consts (X : Arrs) (s : State Ideal) : Prop where
  a : ∀ t b h r, s.main_v47_1 (ix4 t b h r) = (X.D b h (t.val / 64)).a ⟨t.val % 64, Nat.mod_lt _ (by norm_num)⟩ r
  vb : ∀ t b h d, s.main_v47_2 (ix4 t b h d) = (X.D b h (t.val / 64)).vb ⟨t.val % 64, Nat.mod_lt _ (by norm_num)⟩ d
  kbe : ∀ t b h d, s.main_v47_3 (ix4 t b h d) = (X.D b h (t.val / 64)).kbe ⟨t.val % 64, Nat.mod_lt _ (by norm_num)⟩ d
  qg : ∀ t b h d, s.main_v47_4 (ix4 t b h d) = (X.D b h (t.val / 64)).qg ⟨t.val % 64, Nat.mod_lt _ (by norm_num)⟩ d
  kg : ∀ t b h d, s.main_v47_5 (ix4 t b h d) = (X.D b h (t.val / 64)).kg ⟨t.val % 64, Nat.mod_lt _ (by norm_num)⟩ d
  g : ∀ t b h d, s.main_v47_6 (ix4 t b h d) = (X.D b h (t.val / 64)).g d

/-- The scan before token `t`. -/
structure Inv (X : Arrs) (s : State Ideal) (t : ℕ) : Prop where
  con : Consts X s
  us : ∀ b h (r : Fin 64) d, r.val < t % 64 → s.main_v47_9 (ix4 b h r d) = (X.D b h (t / 64)).u r d
  ws : ∀ b h (r : Fin 64) d, r.val < t % 64 → s.main_v47_10 (ix4 b h r d) = (X.D b h (t / 64)).w r d
  st0 : t % 64 = 0 → ∀ b h e d, s.main_v47_12 (ix4 b h e d) = X.S b h (t / 64) e d
  st : t % 64 ≠ 0 → ∀ b h e d, s.main_v47_11 (ix4 b h e d) = X.S b h (t / 64) e d
  af : t % 64 ≠ 0 → ∀ b h e d, s.main_v47_12 (ix4 b h e d) = X.S b h (t / 64) e d * (X.D b h (t / 64)).g d
    + ∑ r : Fin 64, if r.val < t % 64 then (X.D b h (t / 64)).kg r e * (X.D b h (t / 64)).vn (X.S b h (t / 64)) r d else 0
  vs : ∀ t' : Fin 8192, t'.val < t → ∀ b h d, s.main_v47_13 (ix4 t' b h d)
    = (X.D b h (t'.val / 64)).vn (X.S b h (t'.val / 64)) ⟨t'.val % 64, Nat.mod_lt _ (by norm_num)⟩ d
  os : ∀ t' : Fin 8192, t'.val < t → ∀ b h d, s.main_v47_14 (ix4 t' b h d)
    = (X.D b h (t'.val / 64)).qs (X.S b h (t'.val / 64)) ⟨t'.val % 64, Nat.mod_lt _ (by norm_num)⟩ d

theorem inv_step (X : Arrs) (hX : X.Real) (s : State Ideal) (t : ℕ) (ht : t < 8192) (H : Inv X s t) : Inv X (step t s) (t + 1) := by
  have hu : ∀ b h d, b44 t s (ix3 b h d) = (X.D b h (t / 64)).u ⟨t % 64, Nat.mod_lt _ (by norm_num)⟩ d := fun b h d => by
    rw [u_at s t ht, H.con.vb]
    simp only [H.con.a]
    exact (X.D b h (t / 64)).row (fun _ _ => hX.k _) (fun _ _ => hX.kb _) (fun _ _ => hX.dec _)
      (fun i => (X.D b h (t / 64)).vb i d) (fun _ => hX.vb _) ⟨t % 64, Nat.mod_lt _ (by norm_num)⟩ _ (fun r hr => H.us b h r d hr)
  have hw : ∀ b h d, b46 t s (ix3 b h d) = (X.D b h (t / 64)).w ⟨t % 64, Nat.mod_lt _ (by norm_num)⟩ d := fun b h d => by
    rw [w_at s t ht, H.con.kbe]
    simp only [H.con.a]
    exact (X.D b h (t / 64)).row (fun _ _ => hX.k _) (fun _ _ => hX.kb _) (fun _ _ => hX.dec _)
      (fun i => (X.D b h (t / 64)).kbe i d) (fun _ => hX.kbe _) ⟨t % 64, Nat.mod_lt _ (by norm_num)⟩ _ (fun r hr => H.ws b h r d hr)
  have hst : ∀ b h e d, b35 t s (ix4 b h e d) = X.S b h (t / 64) e d := fun b h e d => by
    rw [new_at s t ht]
    by_cases h0 : t % 64 = 0
    · rw [if_pos h0, H.st0 h0]
    · rw [if_neg h0, H.st h0]
  have hv : ∀ b h d, b58 t s (ix3 b h d) = (X.D b h (t / 64)).vn (X.S b h (t / 64)) ⟨t % 64, Nat.mod_lt _ (by norm_num)⟩ d := fun b h d => by
    rw [v_at s t ht, hu]
    simp only [hw, hst]
    rfl
  have hb : ∀ b h e d, b42 t s (ix4 b h e d) = X.S b h (t / 64) e d * (X.D b h (t / 64)).g d
      + ∑ r : Fin 64, if r.val < t % 64 then (X.D b h (t / 64)).kg r e * (X.D b h (t / 64)).vn (X.S b h (t / 64)) r d else 0 := fun b h e d => by
    rw [after_at s t ht]
    by_cases h0 : t % 64 = 0
    · rw [if_pos h0, H.st0 h0, H.con.g]
      have e0 : (∑ r : Fin 64, if r.val < t % 64 then (X.D b h (t / 64)).kg r e * (X.D b h (t / 64)).vn (X.S b h (t / 64)) r d else 0) = 0 :=
        Finset.sum_eq_zero fun r _ => if_neg (by omega)
      rw [e0, add_zero]
    · rw [if_neg h0, H.af h0]
  have hf : ∀ b h e d, b64 t s (ix4 b h e d) = X.S b h (t / 64) e d * (X.D b h (t / 64)).g d
      + ∑ r : Fin 64, if r.val < t % 64 + 1 then (X.D b h (t / 64)).kg r e * (X.D b h (t / 64)).vn (X.S b h (t / 64)) r d else 0 := fun b h e d => by
    rw [after'_at s t ht, hb, hv, H.con.kg, add_assoc]
    congr 1
    exact sum_cut (fun r => (X.D b h (t / 64)).kg r e * (X.D b h (t / 64)).vn (X.S b h (t / 64)) r d) ⟨t % 64, Nat.mod_lt _ (by norm_num)⟩
  refine ⟨⟨H.con.a, H.con.vb, H.con.kbe, H.con.qg, H.con.kg, H.con.g⟩, ?_, ?_, ?_, ?_, ?_, ?_, ?_⟩
  · intro b h r d hr
    rw [step_main_v47_9, us_at s t ht, show (t + 1) / 64 = t / 64 by omega]
    by_cases h1 : r.val = t % 64
    · rw [if_pos h1, hu]
      congr 1
      exact Fin.ext h1.symm
    · rw [if_neg h1]
      exact H.us b h r d (by omega)
  · intro b h r d hr
    rw [step_main_v47_10, ws_at s t ht, show (t + 1) / 64 = t / 64 by omega]
    by_cases h1 : r.val = t % 64
    · rw [if_pos h1, hw]
      congr 1
      exact Fin.ext h1.symm
    · rw [if_neg h1]
      exact H.ws b h r d (by omega)
  · intro h0 b h e d
    rw [step_main_v47_12, hf, show (t + 1) / 64 = t / 64 + 1 by omega]
    show _ = X.S b h (t / 64) e d * (X.D b h (t / 64)).g d + _
    congr 1
    exact Finset.sum_congr rfl fun r _ => if_pos (by omega)
  · intro h0 b h e d
    rw [step_main_v47_11, hst, show (t + 1) / 64 = t / 64 by omega]
  · intro h0 b h e d
    rw [step_main_v47_12, hf, show (t + 1) / 64 = t / 64 by omega, show (t + 1) % 64 = t % 64 + 1 by omega]
  · intro t' ht' b h d
    rw [step_main_v47_13, vs_at s t ht]
    by_cases h1 : t'.val = t
    · rw [if_pos h1, hv]; simp only [h1]
    · rw [if_neg h1]; exact H.vs t' (by omega) b h d
  · intro t' ht' b h d
    rw [step_main_v47_14, os_at s t ht]
    by_cases h1 : t'.val = t
    · rw [if_pos h1]; simp only [hst, H.con.qg, h1]; rfl
    · rw [if_neg h1]; exact H.os t' (by omega) b h d

theorem inv_iter (X : Arrs) (hX : X.Real) (it : ℕ → State Ideal) (hs : ∀ n, it (n + 1) = step n (it n)) (h0 : Inv X (it 0) 0) :
    ∀ t, t ≤ 8192 → Inv X (it t) t
  | 0, _ => h0
  | t + 1, h => by rw [hs]; exact inv_step X hX _ t (by omega) (inv_iter X hX it hs h0 t (by omega))

theorem cl_eq (h : Fin 4) (d : Fin 128) (hp : h.val * 128 + d.val < 512) : cl h d = ⟨h.val * 128 + d.val, hp⟩ :=
  Fin.ext (by show 128 * h.val + d.val = h.val * 128 + d.val; omega)

theorem cs_eq (h : Fin 4) (r : Fin 64) (hp : h.val * 64 + r.val < 256) : cs h r = ⟨h.val * 64 + r.val, hp⟩ :=
  Fin.ext (by show 64 * h.val + r.val = h.val * 64 + r.val; omega)

section Init

variable (x0 x1 x2 x3 x4 x5 x6 : A512) (x8 : A256) (x9 : AG)

/-- The arrays of the reference's arguments. -/
abbrev XS : Arrs := ⟨x0, x1, x2, x3, x4, x5, x6, x8, x9⟩

theorem inv_init : Inv (XS x0 x1 x2 x3 x4 x5 x6 x8 x9) (init (F := Ideal) x1 x2 x3 x4 x5 x6 x8 x9) 0 := by
  have tkt : ∀ t : Fin 8192, tk (t.val / 64) ⟨t.val % 64, Nat.mod_lt _ (by norm_num)⟩ = t := fun t => Fin.ext (by
    show (64 * (t.val / 64) + t.val % 64) % 8192 = t.val
    omega)
  refine ⟨⟨?_, ?_, ?_, ?_, ?_, ?_⟩, ?_, ?_, ?_, ?_, ?_, ?_, ?_⟩
  · intro t b h r
    show A_main_v22 (F := Ideal) x1 x2 x3 x4 x5 x6 x8 x9 (ix4 t b h r) = _
    pointwise [A_main_v22, A_main_v21, A_main_v20, A_main_v19, A_main_v18, A_main_v17, A_main_v16, A_main_v15, A_main_v14, A_main_v13,
      A_main_v12, A_main_v11, A_main_v10, A_main_v9, A_main_v8, A_main_v7, K_main_call0_v1, K_main_call0_v2, K_main_call0_v0, K_main_cst,
      K_main_v6, K_main_v5, K_main_v4, K_main_v3, K_main_v2, K_main_v1, K_main_v0]
    rw [sgt_eq (t.val % 64) r.val (by omega) (by omega)]
    show _ = if r.val < t.val % 64 then (∑ d, x2 (ix3 b (tk (t.val / 64) _) (cl h d)) * x1 (ix3 b (tk (t.val / 64) r) (cl h d)))
      * x8 (ix3 b (tk (t.val / 64) _) (cs h r)) else 0
    by_cases hr : r.val < t.val % 64
    · rw [if_pos hr, if_pos hr, tkt]
      have e : tk (t.val / 64) r = ⟨t.val / 64 * 64 + r.val, by omega⟩ := Fin.ext (by
        show (64 * (t.val / 64) + r.val) % 8192 = t.val / 64 * 64 + r.val
        omega)
      rw [e, cs_eq h r (by omega)]
      congr 1
      refine Finset.sum_congr rfl fun d _ => ?_
      rw [cl_eq h d (by omega)]
      exact mul_comm _ _
    · rw [if_neg hr, if_neg hr]
      simp only [id_eq]
      pointwise
  · intro t b h d
    show A_main_v35 (F := Ideal) x1 x2 x3 x4 x5 x6 x8 x9 (ix4 t b h d) = x3 (ix3 b (tk _ _) (cl h d))
    rw [tkt]
    pointwise [A_main_v35, A_main_v34, A_main_v33]
    rw [cl_eq h d (by omega)]
  · intro t b h d
    show A_main_v38 (F := Ideal) x1 x2 x3 x4 x5 x6 x8 x9 (ix4 t b h d) = x4 (ix3 b (tk _ _) (cl h d))
    rw [tkt]
    pointwise [A_main_v38, A_main_v37, A_main_v36]
    rw [cl_eq h d (by omega)]
  · intro t b h d
    show A_main_v41 (F := Ideal) x1 x2 x3 x4 x5 x6 x8 x9 (ix4 t b h d) = x5 (ix3 b (tk _ _) (cl h d))
    rw [tkt]
    pointwise [A_main_v41, A_main_v40, A_main_v39]
    rw [cl_eq h d (by omega)]
  · intro t b h d
    show A_main_v44 (F := Ideal) x1 x2 x3 x4 x5 x6 x8 x9 (ix4 t b h d) = x6 (ix3 b (tk _ _) (cl h d))
    rw [tkt]
    pointwise [A_main_v44, A_main_v43, A_main_v42]
    rw [cl_eq h d (by omega)]
  · intro t b h d
    show A_main_v26 (F := Ideal) x1 x2 x3 x4 x5 x6 x8 x9 (ix4 t b h d) = x9 (ix3 b _ (cl h d))
    pointwise [A_main_v26, A_main_v25, A_main_v24, A_main_v23]
    rw [cl_eq h d (by omega)]
    congr 2
    exact Fin.ext (by show t.val / 64 = t.val / 64 % 128; omega)
  · intro b h r d hr; exact absurd hr (Nat.not_lt_zero _)
  · intro b h r d hr; exact absurd hr (Nat.not_lt_zero _)
  · intro _ b h e d
    show K_main_v32 (F := Ideal) (ix4 b h e d) = 0
    pointwise [K_main_v32, K_main_cst_3]
  · intro h; exact absurd rfl h
  · intro h; exact absurd rfl h
  · intro t' h; exact absurd h (Nat.not_lt_zero _)
  · intro t' h; exact absurd h (Nat.not_lt_zero _)

end Init

end Cert.ReferenceIdeal.GdnRef

end
-- ==== Proof.GdnPre.lean ====
/- The precondition read entry by entry: the arrays it names hold real numbers. -/
module

public import proofs.«01_k».proof.Pre_finite
public import proofs.«01_k».proof.Proof.GdnRef
public import Idealize.ShloMosaic.Lib.ReduceAll
public import Idealize.ShloMosaic.Lib.Affine

@[expose] public section

noncomputable section

open Idealize.ShloMosaic Cert.Gdn

namespace Cert.Gdn

theorem real_of_lt (x : EReal) (h : max x (-x) < ⊤) : ∃ r : ℝ, x = (r : EReal) := by
  induction x with
  | bot => exact absurd h (by simp)
  | top => exact absurd h (by simp)
  | coe r => exact ⟨r, rfl⟩

theorem real_of_cmp (x t : EReal) (ht : t = ⊤) (h : Ideal.cmp .olt (max x (-x)) t = 1#1) : ∃ r : ℝ, x = (r : EReal) := by
  subst ht
  refine real_of_lt x ?_
  by_contra hn
  simp [Ideal.cmp, hn] at h

theorem top16 : Ideal.ofBits .bf16 0x7F80#16 = ⊤ := by simp [Ideal.ofBits, Ideal.ieee]
theorem top32 : Ideal.ofBits .f32 0x7F800000#32 = ⊤ := by simp [Ideal.ofBits, Ideal.ieee]

instance : Subsingleton Cert.Pre_finite.S_.Idx := ⟨fun a b => funext fun j => j.elim0⟩

theorem real_of_finite [hp : Cert.Pre_finite.Facts] (x0 x1 x2 x3 x4 x5 x6 x7 : A512) (x8 : A256) (x9 : AG)
    (x10 : FVec Ideal ⟨1, ![128]⟩ .f32)
    (h : Cert.Pre_finite.fn (F := Ideal) x0 x1 x2 x3 x4 x5 x6 x7 x8 x9 x10 = fun _ => 1#1) :
    (Cert.ReferenceIdeal.GdnRef.XS x0 x1 x2 x3 x4 x5 x6 x8 x9).Real := by
  have h1 := congrFun h (fun j => j.elim0)
  dsimp only [Cert.Pre_finite.fn, Cert.Pre_finite.fn_part1] at h1
  obtain ⟨h2, e8⟩ := IntOp.andi_eq_one.1 h1
  obtain ⟨h3, e4⟩ := IntOp.andi_eq_one.1 h2
  obtain ⟨h4, e3⟩ := IntOp.andi_eq_one.1 h3
  obtain ⟨e1, e2⟩ := IntOp.andi_eq_one.1 h4
  exact ⟨fun y => real_of_cmp _ _ top16 (Host.reduce_andi_all _ _ _ _ _ e1 y),
    fun y => real_of_cmp _ _ top16 (Host.reduce_andi_all _ _ _ _ _ e2 y),
    fun y => real_of_cmp _ _ top16 (Host.reduce_andi_all _ _ _ _ _ e3 y),
    fun y => real_of_cmp _ _ top16 (Host.reduce_andi_all _ _ _ _ _ e4 y),
    fun y => real_of_cmp _ _ top32 (Host.reduce_andi_all _ _ _ _ _ e8 y)⟩

end Cert.Gdn

end
-- ==== Proof.GdnOut.lean ====
/- The result of the token scan, entry by entry. -/
module

public import proofs.«01_k».proof.Proof.GdnRef

@[expose] public section

set_option maxHeartbeats 4000000

noncomputable section

open Idealize.ShloMosaic Cert.Gdn Cert.ReferenceIdeal.Step
open scoped BigOperators

namespace Cert.ReferenceIdeal.GdnRef

theorem out_at (X : Arrs) (s : State Ideal) (x7 : A512) (x10 : FVec Ideal ⟨1, ![128]⟩ .f32) (H : Inv X s 8192)
    (b : Fin 8) (t : Fin 8192) (c : Fin 512) :
    R_main_v85 s X.q X.k x7 X.dec x10 (ix3 b t c) = X.out x7 x10 b t c := by
  pointwise [R_main_v85]
  have e1 : ∀ hp : c.val / 128 < 4, ∀ x : Fin 128, ∀ hq : c.val / 128 * 128 + x.val < 512, (⟨c.val / 128 * 128 + x.val, hq⟩ : Fin 512) = cl ⟨c.val / 128, hp⟩ x :=
    fun hp x hq => (cl_eq ⟨c.val / 128, hp⟩ x hq).symm
  have e2 : ∀ hp : c.val / 128 < 4, ∀ x : Fin 64, ∀ hq : c.val / 128 * 64 + x.val < 256, (⟨c.val / 128 * 64 + x.val, hq⟩ : Fin 256) = cs ⟨c.val / 128, hp⟩ x :=
    fun hp x hq => (cs_eq ⟨c.val / 128, hp⟩ x hq).symm
  have e3 : ∀ x : Fin 64, ∀ hq : t.val / 64 * 64 + x.val < 8192, (⟨t.val / 64 * 64 + x.val, hq⟩ : Fin 8192) = tk (t.val / 64) x :=
    fun x hq => Fin.ext (by show t.val / 64 * 64 + x.val = (64 * (t.val / 64) + x.val) % 8192; omega)
  have tkt : tk (t.val / 64) ⟨t.val % 64, Nat.mod_lt _ (by norm_num)⟩ = t := Fin.ext (by
    show (64 * (t.val / 64) + t.val % 64) % 8192 = t.val
    omega)
  have tkd : ∀ x : Fin 64, (tk (t.val / 64) x).val / 64 = t.val / 64 := fun x => by
    show (64 * (t.val / 64) + x.val) % 8192 / 64 = t.val / 64; omega
  have tkm : ∀ (x : Fin 64) (hq : (tk (t.val / 64) x).val % 64 < 64), (⟨(tk (t.val / 64) x).val % 64, hq⟩ : Fin 64) = x := fun x _ => Fin.ext (by
    show (64 * (t.val / 64) + x.val) % 8192 % 64 = x.val; omega)
  have ho : ∀ hp : c.val / 128 < 4, ∀ d, s.main_v47_14 (ix4 t b ⟨c.val / 128, hp⟩ d) + ∑ x : Fin 64, s.main_v47_13 (ix4 ⟨t.val / 64 * 64 + x.val, by omega⟩ b ⟨c.val / 128, hp⟩ d) *
      ((∑ x_1 : Fin 128, X.k (ix3 b ⟨t.val / 64 * 64 + x.val, by omega⟩ ⟨c.val / 128 * 128 + x_1.val, by omega⟩) * X.q (ix3 b t ⟨c.val / 128 * 128 + x_1.val, by omega⟩)) *
        X.dec (ix3 b t ⟨c.val / 128 * 64 + x.val, by omega⟩)) =
      (X.D b ⟨c.val / 128, hp⟩ (t.val / 64)).o (X.S b ⟨c.val / 128, hp⟩ (t.val / 64)) ⟨t.val % 64, Nat.mod_lt _ (by norm_num)⟩ d := fun hp d => by
    rw [H.os t t.isLt]
    refine congrArg₂ (· + ·) rfl (Finset.sum_congr rfl fun x _ => ?_)
    rw [e3, e2 hp, H.vs _ (Fin.isLt _), mul_comm]
    simp only [e1 hp, tkm]
    rw [tkd]
    refine congrArg₂ (· * ·) (congrArg₂ (· * ·) (Finset.sum_congr rfl fun d' _ => ?_) ?_) rfl
    · show _ = X.q (ix3 b (tk _ _) _) * X.k (ix3 b (tk _ _) _)
      rw [tkt, mul_comm]
    · show _ = X.dec (ix3 b (tk _ _) _)
      rw [tkt]
  simp only [ho]
  rfl

end Cert.ReferenceIdeal.GdnRef

end
-- ==== Proof.GdnTrip.lean ====
/- One trip of the chunk loop as one computation per sequence, the same for all eight. -/
module

public import proofs.«01_k».proof.Proof.Gen.KernelIdeal.Loops

@[expose] public section
set_option maxRecDepth 8192
set_option maxHeartbeats 40000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-- Four copies of the rows, the block of each head kept. -/
def bdk (v132 : FVec F S256x512 .bf16) (y : FVec F S64x512 .bf16) : FVec F S256x512 .bf16 :=
  mulf (concatenate S256x512 0 [⟨S64x512, y⟩, ⟨S64x512, y⟩, ⟨S64x512, y⟩, ⟨S64x512, y⟩] concatenates_S64x512_S64x512_S64x512_S64x512_S256x512_d0) v132

/-- The same of a square per head. -/
def bd64 (v77 : FVec F S256x256 .bf16) (y : FVec F S64x256 .bf16) : FVec F S256x256 .bf16 :=
  mulf (concatenate S256x256 0 [⟨S64x256, y⟩, ⟨S64x256, y⟩, ⟨S64x256, y⟩, ⟨S64x256, y⟩] concatenates_S64x256_S64x256_S64x256_S64x256_S256x256_d0) v77

/-- The products of the chunk's keys with the scaled keys (first 64 rows) and the queries. -/
def AQ (v132 : FVec F S256x512 .bf16) (kb q k : Vec F S1x64x512 .bf16) : FVec F S128x256 .f32 :=
  matmul dot_S128x512_S256x512_S128x256_1_1_0_0_n_n none
    (concatenate S128x512 0 [⟨S64x512, shapeCast S64x512 kb shapeCasts_S1x64x512_S64x512⟩, ⟨S64x512, shapeCast S64x512 q shapeCasts_S1x64x512_S64x512⟩] concatenates_S64x512_S64x512_S128x512_d0)
    (bdk v132 (shapeCast S64x512 k shapeCasts_S1x64x512_S64x512)) (constant S128x256 .f32 0x00000000#32)

/-- The negated strictly lower part. -/
def PM (v21 : IVec S64x256 1) (aq : FVec F S128x256 .f32) (dec : Vec F S1x64x256 .f32) : FVec F S64x256 .f32 :=
  subf (broadcast S64x256 (Scalar.ofBits .f32 0x00000000#32))
    (select v21 (mulf (extractStridedSlice S64x256 ![0, 0] aq slices_S128x256_o0_0_S64x256) (shapeCast S64x256 dec shapeCasts_S1x64x256_S64x256))
      (broadcast S64x256 (Scalar.ofBits .f32 0x00000000#32)))

/-- One squaring. -/
def SQ (v77 : FVec F S256x256 .bf16) (p : FVec F S64x256 .f32) : FVec F S64x256 .f32 :=
  matmul dot_S64x256_S256x256_S64x256_1_0_0_1_n_n none (truncf .bf16 p bitsLt_bf16_f32) (bd64 v77 (truncf .bf16 p bitsLt_bf16_f32)) (constant S64x256 .f32 0x00000000#32)

/-- One step of the product. -/
def TS (v77 : FVec F S256x256 .bf16) (t p : FVec F S64x256 .f32) : FVec F S64x256 .f32 :=
  addf t (matmul dot_S64x256_S256x256_S64x256_1_0_0_1_n_n none (truncf .bf16 t bitsLt_bf16_f32) (bd64 v77 (truncf .bf16 p bitsLt_bf16_f32)) (constant S64x256 .f32 0x00000000#32))

/-- The product's first factor. -/
def T0 (v22 : IVec S64x256 1) (p : FVec F S64x256 .f32) : FVec F S64x256 .f32 :=
  addf (select v22 (broadcast S64x256 (Scalar.ofBits .f32 0x3F800000#32)) (broadcast S64x256 (Scalar.ofBits .f32 0x00000000#32))) p

/-- The powers and partial products. -/
def PT (v22 : IVec S64x256 1) (v77 : FVec F S256x256 .bf16) (p : FVec F S64x256 .f32) : ℕ → FVec F S64x256 .f32 × FVec F S64x256 .f32
  | 0 => (p, T0 v22 p)
  | n + 1 => (SQ v77 (PT v22 v77 p n).1, TS v77 (PT v22 v77 p n).2 (SQ v77 (PT v22 v77 p n).1))

/-- The inverse applied to rows. -/
def UU (v132 : FVec F S256x512 .bf16) (t : FVec F S64x256 .f32) (vb : Vec F S1x64x512 .bf16) : FVec F S64x512 .f32 :=
  matmul dot_S64x256_S256x512_S64x512_1_0_0_1_n_n none (truncf .bf16 t bitsLt_bf16_f32) (bdk v132 (shapeCast S64x512 vb shapeCasts_S1x64x512_S64x512)) (constant S64x512 .f32 0x00000000#32)

/-- The state as a matrix. -/
def ST (s : Vec F S1x1x256x256 .f32) : FVec F S256x256 .f32 := shapeCast S256x256 s shapeCasts_S1x1x256x256_S256x256

/-- Rows times the state, a pair of heads at a time. -/
def PR (w0 w1 : FVec F S64x256 .bf16) (s0 s1 : Vec F S1x1x256x256 .f32) : FVec F S64x512 .f32 :=
  concatenate S64x512 1 [⟨S64x256, matmul dot_S64x256_S256x256_S64x256_1_0_0_1_n_n none w0 (truncf .bf16 (ST s0) bitsLt_bf16_f32) (constant S64x256 .f32 0x00000000#32)⟩,
    ⟨S64x256, matmul dot_S64x256_S256x256_S64x256_1_0_0_1_n_n none w1 (truncf .bf16 (ST s1) bitsLt_bf16_f32) (constant S64x256 .f32 0x00000000#32)⟩] concatenates_S64x256_S64x256_S64x512_d1

/-- The corrected values. -/
def VN (u : FVec F S64x512 .f32) (w : FVec F S64x512 .bf16) (s0 s1 : Vec F S1x1x256x256 .f32) : FVec F S64x512 .bf16 :=
  truncf .bf16 (subf u (PR (extractStridedSlice S64x256 ![0, 0] w slices_S64x512_o0_0_S64x256)
    (extractStridedSlice S64x256 ![0, 256] w slices_S64x512_o0_256_S64x256) s0 s1)) bitsLt_bf16_f32

/-- The chunk's outputs before the normalization. -/
def OO (v132 : FVec F S256x512 .bf16) (aq : FVec F S128x256 .f32) (dec : Vec F S1x64x256 .f32) (vn : FVec F S64x512 .bf16)
    (qg0 qg1 : Vec F S1x64x256 .bf16) (s0 s1 : Vec F S1x1x256x256 .f32) : FVec F S64x512 .f32 :=
  addf (PR (shapeCast S64x256 qg0 shapeCasts_S1x64x256_S64x256) (shapeCast S64x256 qg1 shapeCasts_S1x64x256_S64x256) s0 s1)
    (matmul dot_S64x256_S256x512_S64x512_1_0_0_1_n_n none
      (truncf .bf16 (mulf (extractStridedSlice S64x256 ![64, 0] aq slices_S128x256_o64_0_S64x256) (shapeCast S64x256 dec shapeCasts_S1x64x256_S64x256)) bitsLt_bf16_f32)
      (bdk v132 vn) (constant S64x512 .f32 0x00000000#32))

/-- The inputs of a chunk of one sequence, as the trip loads them. -/
structure Ld (F : FTy → Type) [FloatOps F] where
  q : Vec F S1x64x512 .bf16
  k : Vec F S1x64x512 .bf16
  kb : Vec F S1x64x512 .bf16
  vb : Vec F S1x64x512 .bf16
  kbe : Vec F S1x64x512 .bf16
  qg0 : Vec F S1x64x256 .bf16
  qg1 : Vec F S1x64x256 .bf16
  kg0 : Vec F S1x64x256 .bf16
  kg1 : Vec F S1x64x256 .bf16
  dec : Vec F S1x64x256 .f32
  egl : Vec F S1x1x1x512 .f32
  s0 : Vec F S1x1x256x256 .f32
  s1 : Vec F S1x1x256x256 .f32

/-- The chunk's inverse. -/
def Ld.t (x : Ld F) (v21 v22 : IVec S64x256 1) (v77 : FVec F S256x256 .bf16) (v132 : FVec F S256x512 .bf16) : FVec F S64x256 .f32 :=
  (PT v22 v77 (PM v21 (AQ v132 x.kb x.q x.k) x.dec) 5).2

/-- The chunk's corrected values. -/
def Ld.vn (x : Ld F) (v21 v22 : IVec S64x256 1) (v77 : FVec F S256x256 .bf16) (v132 : FVec F S256x512 .bf16) : FVec F S64x512 .bf16 :=
  VN (UU v132 (x.t v21 v22 v77 v132) x.vb) (truncf .bf16 (UU v132 (x.t v21 v22 v77 v132) x.kbe) bitsLt_bf16_f32) x.s0 x.s1

/-- The chunk's outputs. -/
def Ld.o (x : Ld F) (v21 v22 : IVec S64x256 1) (v77 : FVec F S256x256 .bf16) (v132 : FVec F S256x512 .bf16) : FVec F S64x512 .f32 :=
  OO v132 (AQ v132 x.kb x.q x.k) x.dec (x.vn v21 v22 v77 v132) x.qg0 x.qg1 x.s0 x.s1

/-- The next state of a pair of heads. -/
def NS (mask : IVec S256x256 1) (s : Vec F S1x1x256x256 .f32) (g : FVec F S1x256 .f32) (kg : Vec F S1x64x256 .bf16) (vn : FVec F S64x256 .bf16) : FVec F S1x1x256x256 .f32 :=
  shapeCast S1x1x256x256 (addf (mulf (ST s) (broadcastTo S256x256 g broadcasts_S1x256_S256x256))
    (select mask (matmul dot_S64x256_S64x256_S256x256_0_0_1_1_n_n none (shapeCast S64x256 kg shapeCasts_S1x64x256_S64x256) vn (constant S256x256 .f32 0x00000000#32))
      (broadcast S256x256 (Scalar.ofBits .f32 0x00000000#32)))) shapeCasts_S256x256_S1x1x256x256

/-- The next state of the first pair. -/
def Ld.n0 (x : Ld F) (v21 v22 : IVec S64x256 1) (v77 : FVec F S256x256 .bf16) (v132 : FVec F S256x512 .bf16) (mask : IVec S256x256 1) : FVec F S1x1x256x256 .f32 :=
  NS mask x.s0 (extractStridedSlice S1x256 ![0, 0] (shapeCast S1x512 x.egl shapeCasts_S1x1x1x512_S1x512) slices_S1x512_o0_0_S1x256) x.kg0
    (extractStridedSlice S64x256 ![0, 0] (x.vn v21 v22 v77 v132) slices_S64x512_o0_0_S64x256)

/-- The next state of the second pair. -/
def Ld.n1 (x : Ld F) (v21 v22 : IVec S64x256 1) (v77 : FVec F S256x256 .bf16) (v132 : FVec F S256x512 .bf16) (mask : IVec S256x256 1) : FVec F S1x1x256x256 .f32 :=
  NS mask x.s1 (extractStridedSlice S1x256 ![0, 256] (shapeCast S1x512 x.egl shapeCasts_S1x1x1x512_S1x512) slices_S1x512_o0_256_S1x256) x.kg1
    (extractStridedSlice S64x256 ![0, 256] (x.vn v21 v22 v77 v132) slices_S64x512_o0_256_S64x256)

/-- The normalized output of one head. -/
def NO (oh : FVec F S64x128 .f32) (nw : Vec F S1x128 .f32) (zs : Vec F S1x64x128 .bf16) : FVec F S1x64x128 .bf16 :=
  shapeCast S1x64x128 (truncf .bf16 (mulf (mulf (mulf oh (broadcastTo S64x128 (rsqrt (addf (divf
      (shapeCast S64x1 (multiReduction .add [1] S64 (mulf oh oh) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 (shapeCast S1x128 nw shapeCasts_S1x128_S1x128) broadcasts_S1x128_S64x128))
    (extf .f32 (shapeCast S64x128 zs shapeCasts_S1x64x128_S64x128) bitsLt_bf16_f32)) bitsLt_bf16_f32) shapeCasts_S64x128_S1x64x128

/-- What a trip loads of sequence 0. -/
def ld0 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off1 k) S1x64x512.size (k0_off1_inb k)).toLoadRect X_arg2),
    (View.readAt (Elt F) arg3.view (Rect.unit (s := S8x128x512) (k0_off1 k) S1x64x512.size (k0_off1_inb k)).toLoadRect X_arg3),
    (View.readAt (Elt F) arg4.view (Rect.unit (s := S8x128x512) (k0_off1 k) S1x64x512.size (k0_off1_inb k)).toLoadRect X_arg4),
    (View.readAt (Elt F) arg5.view (Rect.unit (s := S8x128x512) (k0_off1 k) S1x64x512.size (k0_off1_inb k)).toLoadRect X_arg5),
    (View.readAt (Elt F) arg6.view (Rect.unit (s := S8x128x512) (k0_off1 k) S1x64x512.size (k0_off1_inb k)).toLoadRect X_arg6),
    (View.readAt (Elt F) arg7.view (Rect.unit (s := S8x128x512) (k0_off17 k) S1x64x256.size (k0_off17_inb k)).toLoadRect X_arg7),
    (View.readAt (Elt F) arg7.view (Rect.unit (s := S8x128x512) (k0_off18 k) S1x64x256.size (k0_off18_inb k)).toLoadRect X_arg7),
    (View.readAt (Elt F) arg8.view (Rect.unit (s := S8x128x512) (k0_off17 k) S1x64x256.size (k0_off17_inb k)).toLoadRect X_arg8),
    (View.readAt (Elt F) arg8.view (Rect.unit (s := S8x128x512) (k0_off18 k) S1x64x256.size (k0_off18_inb k)).toLoadRect X_arg8),
    (View.readAt (Elt F) arg10.view (Rect.unit (s := S8x128x256) (k0_off9 k) S1x64x256.size (k0_off9_inb k)).toLoadRect X_arg10),
    (View.readAt (Elt F) arg11.view (Rect.unit (s := S8x1x2x512) (k0_off33 k) S1x1x1x512.size (k0_off33_inb k)).toLoadRect X_arg11),
    (View.readAt (Elt F) arg14.view (Rect.unit (s := S8x2x256x256) ![0, 0, 0, 0] S1x1x256x256.size inb_S8x2x256x256_S1x1x256x256_0_0_0_0).toLoadRect g),
    (View.readAt (Elt F) arg14.view (Rect.unit (s := S8x2x256x256) ![0, 1, 0, 0] S1x1x256x256.size inb_S8x2x256x256_S1x1x256x256_0_1_0_0).toLoadRect g)⟩

/-- What a trip loads of sequence 1. -/
def ld1 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off2 k) S1x64x512.size (k0_off2_inb k)).toLoadRect X_arg2),
    (View.readAt (Elt F) arg3.view (Rect.unit (s := S8x128x512) (k0_off2 k) S1x64x512.size (k0_off2_inb k)).toLoadRect X_arg3),
    (View.readAt (Elt F) arg4.view (Rect.unit (s := S8x128x512) (k0_off2 k) S1x64x512.size (k0_off2_inb k)).toLoadRect X_arg4),
    (View.readAt (Elt F) arg5.view (Rect.unit (s := S8x128x512) (k0_off2 k) S1x64x512.size (k0_off2_inb k)).toLoadRect X_arg5),
    (View.readAt (Elt F) arg6.view (Rect.unit (s := S8x128x512) (k0_off2 k) S1x64x512.size (k0_off2_inb k)).toLoadRect X_arg6),
    (View.readAt (Elt F) arg7.view (Rect.unit (s := S8x128x512) (k0_off19 k) S1x64x256.size (k0_off19_inb k)).toLoadRect X_arg7),
    (View.readAt (Elt F) arg7.view (Rect.unit (s := S8x128x512) (k0_off20 k) S1x64x256.size (k0_off20_inb k)).toLoadRect X_arg7),
    (View.readAt (Elt F) arg8.view (Rect.unit (s := S8x128x512) (k0_off19 k) S1x64x256.size (k0_off19_inb k)).toLoadRect X_arg8),
    (View.readAt (Elt F) arg8.view (Rect.unit (s := S8x128x512) (k0_off20 k) S1x64x256.size (k0_off20_inb k)).toLoadRect X_arg8),
    (View.readAt (Elt F) arg10.view (Rect.unit (s := S8x128x256) (k0_off10 k) S1x64x256.size (k0_off10_inb k)).toLoadRect X_arg10),
    (View.readAt (Elt F) arg11.view (Rect.unit (s := S8x1x2x512) (k0_off38 k) S1x1x1x512.size (k0_off38_inb k)).toLoadRect X_arg11),
    (View.readAt (Elt F) arg14.view (Rect.unit (s := S8x2x256x256) ![1, 0, 0, 0] S1x1x256x256.size inb_S8x2x256x256_S1x1x256x256_1_0_0_0).toLoadRect g),
    (View.readAt (Elt F) arg14.view (Rect.unit (s := S8x2x256x256) ![1, 1, 0, 0] S1x1x256x256.size inb_S8x2x256x256_S1x1x256x256_1_1_0_0).toLoadRect g)⟩

/-- What a trip loads of sequence 2. -/
def ld2 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off3 k) S1x64x512.size (k0_off3_inb k)).toLoadRect X_arg2),
    (View.readAt (Elt F) arg3.view (Rect.unit (s := S8x128x512) (k0_off3 k) S1x64x512.size (k0_off3_inb k)).toLoadRect X_arg3),
    (View.readAt (Elt F) arg4.view (Rect.unit (s := S8x128x512) (k0_off3 k) S1x64x512.size (k0_off3_inb k)).toLoadRect X_arg4),
    (View.readAt (Elt F) arg5.view (Rect.unit (s := S8x128x512) (k0_off3 k) S1x64x512.size (k0_off3_inb k)).toLoadRect X_arg5),
    (View.readAt (Elt F) arg6.view (Rect.unit (s := S8x128x512) (k0_off3 k) S1x64x512.size (k0_off3_inb k)).toLoadRect X_arg6),
    (View.readAt (Elt F) arg7.view (Rect.unit (s := S8x128x512) (k0_off21 k) S1x64x256.size (k0_off21_inb k)).toLoadRect X_arg7),
    (View.readAt (Elt F) arg7.view (Rect.unit (s := S8x128x512) (k0_off22 k) S1x64x256.size (k0_off22_inb k)).toLoadRect X_arg7),
    (View.readAt (Elt F) arg8.view (Rect.unit (s := S8x128x512) (k0_off21 k) S1x64x256.size (k0_off21_inb k)).toLoadRect X_arg8),
    (View.readAt (Elt F) arg8.view (Rect.unit (s := S8x128x512) (k0_off22 k) S1x64x256.size (k0_off22_inb k)).toLoadRect X_arg8),
    (View.readAt (Elt F) arg10.view (Rect.unit (s := S8x128x256) (k0_off11 k) S1x64x256.size (k0_off11_inb k)).toLoadRect X_arg10),
    (View.readAt (Elt F) arg11.view (Rect.unit (s := S8x1x2x512) (k0_off43 k) S1x1x1x512.size (k0_off43_inb k)).toLoadRect X_arg11),
    (View.readAt (Elt F) arg14.view (Rect.unit (s := S8x2x256x256) ![2, 0, 0, 0] S1x1x256x256.size inb_S8x2x256x256_S1x1x256x256_2_0_0_0).toLoadRect g),
    (View.readAt (Elt F) arg14.view (Rect.unit (s := S8x2x256x256) ![2, 1, 0, 0] S1x1x256x256.size inb_S8x2x256x256_S1x1x256x256_2_1_0_0).toLoadRect g)⟩

/-- What a trip loads of sequence 3. -/
def ld3 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off4 k) S1x64x512.size (k0_off4_inb k)).toLoadRect X_arg2),
    (View.readAt (Elt F) arg3.view (Rect.unit (s := S8x128x512) (k0_off4 k) S1x64x512.size (k0_off4_inb k)).toLoadRect X_arg3),
    (View.readAt (Elt F) arg4.view (Rect.unit (s := S8x128x512) (k0_off4 k) S1x64x512.size (k0_off4_inb k)).toLoadRect X_arg4),
    (View.readAt (Elt F) arg5.view (Rect.unit (s := S8x128x512) (k0_off4 k) S1x64x512.size (k0_off4_inb k)).toLoadRect X_arg5),
    (View.readAt (Elt F) arg6.view (Rect.unit (s := S8x128x512) (k0_off4 k) S1x64x512.size (k0_off4_inb k)).toLoadRect X_arg6),
    (View.readAt (Elt F) arg7.view (Rect.unit (s := S8x128x512) (k0_off23 k) S1x64x256.size (k0_off23_inb k)).toLoadRect X_arg7),
    (View.readAt (Elt F) arg7.view (Rect.unit (s := S8x128x512) (k0_off24 k) S1x64x256.size (k0_off24_inb k)).toLoadRect X_arg7),
    (View.readAt (Elt F) arg8.view (Rect.unit (s := S8x128x512) (k0_off23 k) S1x64x256.size (k0_off23_inb k)).toLoadRect X_arg8),
    (View.readAt (Elt F) arg8.view (Rect.unit (s := S8x128x512) (k0_off24 k) S1x64x256.size (k0_off24_inb k)).toLoadRect X_arg8),
    (View.readAt (Elt F) arg10.view (Rect.unit (s := S8x128x256) (k0_off12 k) S1x64x256.size (k0_off12_inb k)).toLoadRect X_arg10),
    (View.readAt (Elt F) arg11.view (Rect.unit (s := S8x1x2x512) (k0_off48 k) S1x1x1x512.size (k0_off48_inb k)).toLoadRect X_arg11),
    (View.readAt (Elt F) arg14.view (Rect.unit (s := S8x2x256x256) ![3, 0, 0, 0] S1x1x256x256.size inb_S8x2x256x256_S1x1x256x256_3_0_0_0).toLoadRect g),
    (View.readAt (Elt F) arg14.view (Rect.unit (s := S8x2x256x256) ![3, 1, 0, 0] S1x1x256x256.size inb_S8x2x256x256_S1x1x256x256_3_1_0_0).toLoadRect g)⟩

/-- What a trip loads of sequence 4. -/
def ld4 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off5 k) S1x64x512.size (k0_off5_inb k)).toLoadRect X_arg2),
    (View.readAt (Elt F) arg3.view (Rect.unit (s := S8x128x512) (k0_off5 k) S1x64x512.size (k0_off5_inb k)).toLoadRect X_arg3),
    (View.readAt (Elt F) arg4.view (Rect.unit (s := S8x128x512) (k0_off5 k) S1x64x512.size (k0_off5_inb k)).toLoadRect X_arg4),
    (View.readAt (Elt F) arg5.view (Rect.unit (s := S8x128x512) (k0_off5 k) S1x64x512.size (k0_off5_inb k)).toLoadRect X_arg5),
    (View.readAt (Elt F) arg6.view (Rect.unit (s := S8x128x512) (k0_off5 k) S1x64x512.size (k0_off5_inb k)).toLoadRect X_arg6),
    (View.readAt (Elt F) arg7.view (Rect.unit (s := S8x128x512) (k0_off25 k) S1x64x256.size (k0_off25_inb k)).toLoadRect X_arg7),
    (View.readAt (Elt F) arg7.view (Rect.unit (s := S8x128x512) (k0_off26 k) S1x64x256.size (k0_off26_inb k)).toLoadRect X_arg7),
    (View.readAt (Elt F) arg8.view (Rect.unit (s := S8x128x512) (k0_off25 k) S1x64x256.size (k0_off25_inb k)).toLoadRect X_arg8),
    (View.readAt (Elt F) arg8.view (Rect.unit (s := S8x128x512) (k0_off26 k) S1x64x256.size (k0_off26_inb k)).toLoadRect X_arg8),
    (View.readAt (Elt F) arg10.view (Rect.unit (s := S8x128x256) (k0_off13 k) S1x64x256.size (k0_off13_inb k)).toLoadRect X_arg10),
    (View.readAt (Elt F) arg11.view (Rect.unit (s := S8x1x2x512) (k0_off53 k) S1x1x1x512.size (k0_off53_inb k)).toLoadRect X_arg11),
    (View.readAt (Elt F) arg14.view (Rect.unit (s := S8x2x256x256) ![4, 0, 0, 0] S1x1x256x256.size inb_S8x2x256x256_S1x1x256x256_4_0_0_0).toLoadRect g),
    (View.readAt (Elt F) arg14.view (Rect.unit (s := S8x2x256x256) ![4, 1, 0, 0] S1x1x256x256.size inb_S8x2x256x256_S1x1x256x256_4_1_0_0).toLoadRect g)⟩

/-- What a trip loads of sequence 5. -/
def ld5 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off6 k) S1x64x512.size (k0_off6_inb k)).toLoadRect X_arg2),
    (View.readAt (Elt F) arg3.view (Rect.unit (s := S8x128x512) (k0_off6 k) S1x64x512.size (k0_off6_inb k)).toLoadRect X_arg3),
    (View.readAt (Elt F) arg4.view (Rect.unit (s := S8x128x512) (k0_off6 k) S1x64x512.size (k0_off6_inb k)).toLoadRect X_arg4),
    (View.readAt (Elt F) arg5.view (Rect.unit (s := S8x128x512) (k0_off6 k) S1x64x512.size (k0_off6_inb k)).toLoadRect X_arg5),
    (View.readAt (Elt F) arg6.view (Rect.unit (s := S8x128x512) (k0_off6 k) S1x64x512.size (k0_off6_inb k)).toLoadRect X_arg6),
    (View.readAt (Elt F) arg7.view (Rect.unit (s := S8x128x512) (k0_off27 k) S1x64x256.size (k0_off27_inb k)).toLoadRect X_arg7),
    (View.readAt (Elt F) arg7.view (Rect.unit (s := S8x128x512) (k0_off28 k) S1x64x256.size (k0_off28_inb k)).toLoadRect X_arg7),
    (View.readAt (Elt F) arg8.view (Rect.unit (s := S8x128x512) (k0_off27 k) S1x64x256.size (k0_off27_inb k)).toLoadRect X_arg8),
    (View.readAt (Elt F) arg8.view (Rect.unit (s := S8x128x512) (k0_off28 k) S1x64x256.size (k0_off28_inb k)).toLoadRect X_arg8),
    (View.readAt (Elt F) arg10.view (Rect.unit (s := S8x128x256) (k0_off14 k) S1x64x256.size (k0_off14_inb k)).toLoadRect X_arg10),
    (View.readAt (Elt F) arg11.view (Rect.unit (s := S8x1x2x512) (k0_off58 k) S1x1x1x512.size (k0_off58_inb k)).toLoadRect X_arg11),
    (View.readAt (Elt F) arg14.view (Rect.unit (s := S8x2x256x256) ![5, 0, 0, 0] S1x1x256x256.size inb_S8x2x256x256_S1x1x256x256_5_0_0_0).toLoadRect g),
    (View.readAt (Elt F) arg14.view (Rect.unit (s := S8x2x256x256) ![5, 1, 0, 0] S1x1x256x256.size inb_S8x2x256x256_S1x1x256x256_5_1_0_0).toLoadRect g)⟩

/-- What a trip loads of sequence 6. -/
def ld6 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off7 k) S1x64x512.size (k0_off7_inb k)).toLoadRect X_arg2),
    (View.readAt (Elt F) arg3.view (Rect.unit (s := S8x128x512) (k0_off7 k) S1x64x512.size (k0_off7_inb k)).toLoadRect X_arg3),
    (View.readAt (Elt F) arg4.view (Rect.unit (s := S8x128x512) (k0_off7 k) S1x64x512.size (k0_off7_inb k)).toLoadRect X_arg4),
    (View.readAt (Elt F) arg5.view (Rect.unit (s := S8x128x512) (k0_off7 k) S1x64x512.size (k0_off7_inb k)).toLoadRect X_arg5),
    (View.readAt (Elt F) arg6.view (Rect.unit (s := S8x128x512) (k0_off7 k) S1x64x512.size (k0_off7_inb k)).toLoadRect X_arg6),
    (View.readAt (Elt F) arg7.view (Rect.unit (s := S8x128x512) (k0_off29 k) S1x64x256.size (k0_off29_inb k)).toLoadRect X_arg7),
    (View.readAt (Elt F) arg7.view (Rect.unit (s := S8x128x512) (k0_off30 k) S1x64x256.size (k0_off30_inb k)).toLoadRect X_arg7),
    (View.readAt (Elt F) arg8.view (Rect.unit (s := S8x128x512) (k0_off29 k) S1x64x256.size (k0_off29_inb k)).toLoadRect X_arg8),
    (View.readAt (Elt F) arg8.view (Rect.unit (s := S8x128x512) (k0_off30 k) S1x64x256.size (k0_off30_inb k)).toLoadRect X_arg8),
    (View.readAt (Elt F) arg10.view (Rect.unit (s := S8x128x256) (k0_off15 k) S1x64x256.size (k0_off15_inb k)).toLoadRect X_arg10),
    (View.readAt (Elt F) arg11.view (Rect.unit (s := S8x1x2x512) (k0_off63 k) S1x1x1x512.size (k0_off63_inb k)).toLoadRect X_arg11),
    (View.readAt (Elt F) arg14.view (Rect.unit (s := S8x2x256x256) ![6, 0, 0, 0] S1x1x256x256.size inb_S8x2x256x256_S1x1x256x256_6_0_0_0).toLoadRect g),
    (View.readAt (Elt F) arg14.view (Rect.unit (s := S8x2x256x256) ![6, 1, 0, 0] S1x1x256x256.size inb_S8x2x256x256_S1x1x256x256_6_1_0_0).toLoadRect g)⟩

/-- What a trip loads of sequence 7. -/
def ld7 (arg2 : Memref sig .tc .vmem S8x128x512 .bf16) (arg3 : Memref sig .tc .vmem S8x128x512 .bf16) (arg4 : Memref sig .tc .vmem S8x128x512 .bf16) (arg5 : Memref sig .tc .vmem S8x128x512 .bf16) (arg6 : Memref sig .tc .vmem S8x128x512 .bf16) (arg7 : Memref sig .tc .vmem S8x128x512 .bf16) (arg8 : Memref sig .tc .vmem S8x128x512 .bf16) (arg9 : Memref sig .tc .vmem S8x128x512 .bf16) (arg10 : Memref sig .tc .vmem S8x128x256 .f32) (arg11 : Memref sig .tc .vmem S8x1x2x512 .f32) (arg12 : Memref sig .tc .vmem S1x128 .f32) (arg13 : Memref sig .tc .vmem S8x128x512 .bf16) (arg14 : Memref sig .tc .vmem S8x2x256x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (g : BufTy.Contents (Elt F) arg14.view.ty) : Ld F :=
  ⟨(View.readAt (Elt F) arg2.view (Rect.unit (s := S8x128x512) (k0_off8 k) S1x64x512.size (k0_off8_inb k)).toLoadRect X_arg2),
    (View.readAt (Elt F) arg3.view (Rect.unit (s := S8x128x512) (k0_off8 k) S1x64x512.size (k0_off8_inb k)).toLoadRect X_arg3),
    (View.readAt (Elt F) arg4.view (Rect.unit (s := S8x128x512) (k0_off8 k) S1x64x512.size (k0_off8_inb k)).toLoadRect X_arg4),
    (View.readAt (Elt F) arg5.view (Rect.unit (s := S8x128x512) (k0_off8 k) S1x64x512.size (k0_off8_inb k)).toLoadRect X_arg5),
    (View.readAt (Elt F) arg6.view (Rect.unit (s := S8x128x512) (k0_off8 k) S1x64x512.size (k0_off8_inb k)).toLoadRect X_arg6),
    (View.readAt (Elt F) arg7.view (Rect.unit (s := S8x128x512) (k0_off31 k) S1x64x256.size (k0_off31_inb k)).toLoadRect X_arg7),
    (View.readAt (Elt F) arg7.view (Rect.unit (s := S8x128x512) (k0_off32 k) S1x64x256.size (k0_off32_inb k)).toLoadRect X_arg7),
    (View.readAt (Elt F) arg8.view (Rect.unit (s := S8x128x512) (k0_off31 k) S1x64x256.size (k0_off31_inb k)).toLoadRect X_arg8),
    (View.readAt (Elt F) arg8.view (Rect.unit (s := S8x128x512) (k0_off32 k) S1x64x256.size (k0_off32_inb k)).toLoadRect X_arg8),
    (View.readAt (Elt F) arg10.view (Rect.unit (s := S8x128x256) (k0_off16 k) S1x64x256.size (k0_off16_inb k)).toLoadRect X_arg10),
    (View.readAt (Elt F) arg11.view (Rect.unit (s := S8x1x2x512) (k0_off68 k) S1x1x1x512.size (k0_off68_inb k)).toLoadRect X_arg11),
    (View.readAt (Elt F) arg14.view (Rect.unit (s := S8x2x256x256) ![7, 0, 0, 0] S1x1x256x256.size inb_S8x2x256x256_S1x1x256x256_7_0_0_0).toLoadRect g),
    (View.readAt (Elt F) arg14.view (Rect.unit (s := S8x2x256x256) ![7, 1, 0, 0] S1x1x256x256.size inb_S8x2x256x256_S1x1x256x256_7_1_0_0).toLoadRect g)⟩

end Cert.KernelIdeal.Gen

end
-- ==== Proof.GdnOps.lean ====
/- One trip's computation, entry by entry: the blocks of each head computed apart. -/
module

public import proofs.«01_k».proof.Proof.GdnTrip
public import proofs.«01_k».proof.Proof.GdnData

@[expose] public section

set_option maxHeartbeats 4000000

noncomputable section

open Idealize.ShloMosaic Cert.Gdn Cert.KernelIdeal Cert.KernelIdeal.Gen
open scoped BigOperators

namespace Cert.Gdn

/-- Head `p` of pair `s`. -/
def hd (s p : Fin 2) : Fin 4 := ⟨2 * s.val + p.val, by omega⟩
/-- Channel `d` of the head `p` of a pair. -/
def pp (p : Fin 2) (d : Fin 128) : Fin 256 := ⟨128 * p.val + d.val, by omega⟩

theorem cl_inj (h : Fin 4) : Function.Injective (cl h) := fun a b e => Fin.ext (by
  have := congrArg Fin.val e
  simp only [cl] at this
  omega)
theorem cs_inj (h : Fin 4) : Function.Injective (cs h) := fun a b e => Fin.ext (by
  have := congrArg Fin.val e
  simp only [cs] at this
  omega)
theorem pp_inj (h : Fin 2) : Function.Injective (pp h) := fun a b e => Fin.ext (by
  have := congrArg Fin.val e
  simp only [pp] at this
  omega)
theorem cl_split (x : Fin 512) : ∃ h d, x = cl h d := ⟨⟨x.val / 128, by omega⟩, ⟨x.val % 128, by omega⟩, Fin.ext (by
  show x.val = 128 * (x.val / 128) + x.val % 128; omega)⟩
theorem cs_split (x : Fin 256) : ∃ h d, x = cs h d := ⟨⟨x.val / 64, by omega⟩, ⟨x.val % 64, by omega⟩, Fin.ext (by
  show x.val = 64 * (x.val / 64) + x.val % 64; omega)⟩
theorem pp_split (x : Fin 256) : ∃ h d, x = pp h d := ⟨⟨x.val / 128, by omega⟩, ⟨x.val % 128, by omega⟩, Fin.ext (by
  show x.val = 128 * (x.val / 128) + x.val % 128; omega)⟩
theorem hd_split (h : Fin 4) : ∃ s p, h = hd s p := ⟨⟨h.val / 2, by omega⟩, ⟨h.val % 2, by omega⟩, Fin.ext (by
  show h.val = 2 * (h.val / 2) + h.val % 2; omega)⟩

/-- A sum whose terms off an embedded range are zero. -/
theorem sum_emb {m n : ℕ} (e : Fin m → Fin n) (he : Function.Injective e) (f : Fin n → EReal) (g : Fin m → EReal)
    (hf : ∀ x, (∀ d, e d ≠ x) → f x = 0) (hg : ∀ d, f (e d) = g d) : ∑ x, f x = ∑ d, g d :=
  (Finset.sum_of_injOn e he.injOn (fun _ _ => Finset.mem_coe.mpr (Finset.mem_univ _))
    (fun x _ hx => hf x fun d hd => hx ⟨d, Finset.mem_coe.mpr (Finset.mem_univ _), hd⟩) (fun d _ => (hg d).symm)).symm

/-- What the masks of a trip hold. -/
structure Masks (v21 v22 : IVec S64x256 1) (v77 : FVec Ideal S256x256 .bf16) (v132 : FVec Ideal S256x512 .bf16) (mask : IVec S256x256 1) : Prop where
  low : ∀ i h j (a b : EReal), Scalar.select (v21 (ix2 i (cs h j))) a b = if j < i then a else b
  diag : ∀ i h j (a b : EReal), Scalar.select (v22 (ix2 i (cs h j))) a b = if i = j then a else b
  b64 : ∀ h i h' j, v77 (ix2 (cs h i) (cs h' j)) = if h = h' then 1 else 0
  b128 : ∀ h i h' d, v132 (ix2 (cs h i) (cl h' d)) = if h = h' then 1 else 0
  pair : ∀ p e p' d (a b : EReal), Scalar.select (mask (ix2 (pp p e) (pp p' d))) a b = if p = p' then a else b

section Blocks

variable {v21 v22 : IVec S64x256 1} {v77 : FVec Ideal S256x256 .bf16} {v132 : FVec Ideal S256x512 .bf16} {mask : IVec S256x256 1}
  (M : Masks v21 v22 v77 v132 mask)
include M

theorem bdk_at (y : FVec Ideal S64x512 .bf16) (h : Fin 4) (j : Fin 64) (h' : Fin 4) (d : Fin 128) :
    bdk (F := Ideal) v132 y (ix2 (cs h j) (cl h' d)) = if h = h' then y (ix2 j (cl h' d)) else 0 := by
  pointwise [bdk]
  rw [M.b128]
  by_cases e : h = h'
  · rw [if_pos e, if_pos e, mul_one]
    have hv : (cs h j).val = 64 * h.val + j.val := rfl
    split_ifs <;> exact congrArg y (congrArg (fun z => ix2 z (cl h' d)) (Fin.ext (by simp only []; omega)))
  · rw [if_neg e, if_neg e, mul_zero]

theorem bd64_at (y : FVec Ideal S64x256 .bf16) (h : Fin 4) (j : Fin 64) (h' : Fin 4) (d : Fin 64) :
    bd64 (F := Ideal) v77 y (ix2 (cs h j) (cs h' d)) = if h = h' then y (ix2 j (cs h' d)) else 0 := by
  pointwise [bd64]
  rw [M.b64]
  by_cases e : h = h'
  · rw [if_pos e, if_pos e, mul_one]
    have hv : (cs h j).val = 64 * h.val + j.val := rfl
    split_ifs <;> exact congrArg y (congrArg (fun z => ix2 z (cs h' d)) (Fin.ext (by simp only []; omega)))
  · rw [if_neg e, if_neg e, mul_zero]

/-- A sum over the channels of a block row. -/
theorem sum_bdk (f : Fin 512 → EReal) (y : FVec Ideal S64x512 .bf16) (h : Fin 4) (j : Fin 64) :
    ∑ x, f x * bdk (F := Ideal) v132 y (ix2 (cs h j) x) = ∑ d, f (cl h d) * y (ix2 j (cl h d)) :=
  sum_emb (cl h) (cl_inj h) _ _ (fun x hx => by
    obtain ⟨h', d, rfl⟩ := cl_split x
    rw [bdk_at M, if_neg (fun e => hx d (by rw [e])), mul_zero]) (fun d => by rw [bdk_at M, if_pos rfl])

/-- A sum over the rows of a block column. -/
theorem sum_bdk' (f : Fin 256 → EReal) (y : FVec Ideal S64x512 .bf16) (h : Fin 4) (d : Fin 128) :
    ∑ x, f x * bdk (F := Ideal) v132 y (ix2 x (cl h d)) = ∑ j, f (cs h j) * y (ix2 j (cl h d)) :=
  sum_emb (cs h) (cs_inj h) _ _ (fun x hx => by
    obtain ⟨h', j, rfl⟩ := cs_split x
    rw [bdk_at M, if_neg (fun e => hx j (by rw [e])), mul_zero]) (fun j => by rw [bdk_at M, if_pos rfl])

theorem sum_bd64 (f : Fin 256 → EReal) (y : FVec Ideal S64x256 .bf16) (h : Fin 4) (d : Fin 64) :
    ∑ x, f x * bd64 (F := Ideal) v77 y (ix2 x (cs h d)) = ∑ j, f (cs h j) * y (ix2 j (cs h d)) :=
  sum_emb (cs h) (cs_inj h) _ _ (fun x hx => by
    obtain ⟨h', j, rfl⟩ := cs_split x
    rw [bd64_at M, if_neg (fun e => hx j (by rw [e])), mul_zero]) (fun j => by rw [bd64_at M, if_pos rfl])

theorem aq_lo (kb q k : Vec Ideal S1x64x512 .bf16) (i : Fin 64) (h : Fin 4) (j : Fin 64) (hp : i.val < 128) :
    AQ (F := Ideal) v132 kb q k (ix2 ⟨i.val, hp⟩ (cs h j)) = ∑ d, kb (ix3 0 i (cl h d)) * k (ix3 0 j (cl h d)) := by
  pointwise [AQ]
  rw [sum_bdk M]
  pointwise
theorem aq_hi (kb q k : Vec Ideal S1x64x512 .bf16) (i : Fin 64) (h : Fin 4) (j : Fin 64) (hp : 64 + i.val < 128) :
    AQ (F := Ideal) v132 kb q k (ix2 ⟨64 + i.val, hp⟩ (cs h j)) = ∑ d, q (ix3 0 i (cl h d)) * k (ix3 0 j (cl h d)) := by
  pointwise [AQ]
  rw [sum_bdk M]
  pointwise
  trace_state

theorem pm_at (kb q k : Vec Ideal S1x64x512 .bf16) (dec : Vec Ideal S1x64x256 .f32) (i : Fin 64) (h : Fin 4) (j : Fin 64) :
    PM (F := Ideal) v21 (AQ v132 kb q k) dec (ix2 i (cs h j)) =
      0 - if j < i then (∑ d, kb (ix3 0 i (cl h d)) * k (ix3 0 j (cl h d))) * dec (ix3 0 i (cs h j)) else 0 := by
  pointwise [PM]
  rw [M.low, aq_lo M]

theorem pt_at (p : FVec Ideal S64x256 .f32) (h : Fin 4) : ∀ n,
    (∀ i j, (PT (F := Ideal) v22 v77 p n).1 (ix2 i (cs h j)) = (pt (fun i j => p (ix2 i (cs h j))) n).1 i j) ∧
    (∀ i j, (PT (F := Ideal) v22 v77 p n).2 (ix2 i (cs h j)) = (pt (fun i j => p (ix2 i (cs h j))) n).2 i j)
  | 0 => ⟨fun _ _ => rfl, fun i j => by
      show T0 (F := Ideal) v22 p (ix2 i (cs h j)) = (if i = j then 1 else 0) + p (ix2 i (cs h j))
      pointwise [T0]
      rw [M.diag]⟩
  | n + 1 => by
      obtain ⟨h1, h2⟩ := pt_at p h n
      have e1 : ∀ i j, SQ (F := Ideal) v77 (PT (F := Ideal) v22 v77 p n).1 (ix2 i (cs h j)) = (pt (fun i j => p (ix2 i (cs h j))) (n + 1)).1 i j := fun i j => by
        pointwise [SQ]
        rw [sum_bd64 M]
        exact Finset.sum_congr rfl fun s _ => congrArg₂ (· * ·) (h1 i s) (h1 s j)
      refine ⟨e1, fun i j => ?_⟩
      show TS (F := Ideal) v77 (PT (F := Ideal) v22 v77 p n).2 (SQ (F := Ideal) v77 (PT (F := Ideal) v22 v77 p n).1) (ix2 i (cs h j)) = _
      pointwise [TS]
      rw [sum_bd64 M]
      exact congrArg₂ (· + ·) (h2 i j) (Finset.sum_congr rfl fun s _ => congrArg₂ (· * ·) (h2 i s) (e1 s j))

theorem uu_at (t : FVec Ideal S64x256 .f32) (vb : Vec Ideal S1x64x512 .bf16) (i : Fin 64) (h : Fin 4) (d : Fin 128) :
    UU (F := Ideal) v132 t vb (ix2 i (cl h d)) = ∑ s, t (ix2 i (cs h s)) * vb (ix3 0 s (cl h d)) := by
  pointwise [UU]
  rw [sum_bdk' M]
  pointwise

end Blocks

/-- The rows times a block-diagonal state. -/
theorem pr_at (w0 w1 : FVec Ideal S64x256 .bf16) (s0 s1 : Vec Ideal S1x1x256x256 .f32) (i : Fin 64) (s p : Fin 2) (d : Fin 128) (S : Fin 4 → St)
    (W : Fin 4 → Fin 128 → EReal)
    (h0 : ∀ p e p' d, s0 (ix4 0 0 (pp p e) (pp p' d)) = if p = p' then S (hd 0 p') e d else 0)
    (h1 : ∀ p e p' d, s1 (ix4 0 0 (pp p e) (pp p' d)) = if p = p' then S (hd 1 p') e d else 0)
    (hw0 : ∀ p e, w0 (ix2 i (pp p e)) = W (hd 0 p) e) (hw1 : ∀ p e, w1 (ix2 i (pp p e)) = W (hd 1 p) e) :
    PR (F := Ideal) w0 w1 s0 s1 (ix2 i (cl (hd s p) d)) = ∑ e, W (hd s p) e * S (hd s p) e d := by
  have hv : (cl (hd s p) d).val = 128 * (2 * s.val + p.val) + d.val := rfl
  pointwise [PR, Gen.ST]
  by_cases hs : s = 0
  · subst hs
    have hv' : (cl (hd 0 p) d).val = 128 * p.val + d.val := by rw [hv]; simp
    rw [dif_pos (by omega)]
    rw [show (⟨(cl (hd 0 p) d).val, by omega⟩ : Fin 256) = pp p d from Fin.ext hv']
    refine sum_emb (pp p) (pp_inj p) _ _ (fun x hx => ?_) (fun e => ?_)
    · obtain ⟨p', e, rfl⟩ := pp_split x
      rw [h0, if_neg (fun e' => hx e (by rw [e'])), mul_zero]
    · rw [h0, if_pos rfl, hw0]
  · have hs' : s = 1 := Fin.ext (by have : s.val ≠ 0 := fun e => hs (Fin.ext e); show s.val = 1; omega)
    subst hs'
    have hv' : (cl (hd 1 p) d).val = 256 + (128 * p.val + d.val) := by rw [hv]; simp; omega
    rw [dif_neg (by omega)]
    rw [show (⟨(cl (hd 1 p) d).val - 256, by omega⟩ : Fin 256) = pp p d from Fin.ext (by show (cl (hd 1 p) d).val - 256 = 128 * p.val + d.val; omega)]
    refine sum_emb (pp p) (pp_inj p) _ _ (fun x hx => ?_) (fun e => ?_)
    · obtain ⟨p', e, rfl⟩ := pp_split x
      rw [h1, if_neg (fun e' => hx e (by rw [e'])), mul_zero]
    · rw [h1, if_pos rfl, hw1]

/-- What a trip loads is one chunk of four heads. -/
structure IsLd (x : Ld Ideal) (D : Fin 4 → Chunk) (S : Fin 4 → St) : Prop where
  q : ∀ h i d, x.q (ix3 0 i (cl h d)) = (D h).q i d
  k : ∀ h i d, x.k (ix3 0 i (cl h d)) = (D h).k i d
  kb : ∀ h i d, x.kb (ix3 0 i (cl h d)) = (D h).kb i d
  vb : ∀ h i d, x.vb (ix3 0 i (cl h d)) = (D h).vb i d
  kbe : ∀ h i d, x.kbe (ix3 0 i (cl h d)) = (D h).kbe i d
  qg0 : ∀ p i d, x.qg0 (ix3 0 i (pp p d)) = (D (hd 0 p)).qg i d
  qg1 : ∀ p i d, x.qg1 (ix3 0 i (pp p d)) = (D (hd 1 p)).qg i d
  kg0 : ∀ p i d, x.kg0 (ix3 0 i (pp p d)) = (D (hd 0 p)).kg i d
  kg1 : ∀ p i d, x.kg1 (ix3 0 i (pp p d)) = (D (hd 1 p)).kg i d
  dec : ∀ h i j, x.dec (ix3 0 i (cs h j)) = (D h).dec i j
  g : ∀ h d, x.egl (ix4 0 0 0 (cl h d)) = (D h).g d
  s0 : ∀ p e p' d, x.s0 (ix4 0 0 (pp p e) (pp p' d)) = if p = p' then S (hd 0 p') e d else 0
  s1 : ∀ p e p' d, x.s1 (ix4 0 0 (pp p e) (pp p' d)) = if p = p' then S (hd 1 p') e d else 0

theorem cl0 (p : Fin 2) (e : Fin 128) (hp : (pp p e).val < 512) : (⟨(pp p e).val, hp⟩ : Fin 512) = cl (hd 0 p) e := Fin.ext (by
  show 128 * p.val + e.val = 128 * (2 * 0 + p.val) + e.val; omega)
theorem cl1 (p : Fin 2) (e : Fin 128) (hp : 256 + (pp p e).val < 512) : (⟨256 + (pp p e).val, hp⟩ : Fin 512) = cl (hd 1 p) e := Fin.ext (by
  show 256 + (128 * p.val + e.val) = 128 * (2 * 1 + p.val) + e.val; omega)

section Trip

variable {v21 v22 : IVec S64x256 1} {v77 : FVec Ideal S256x256 .bf16} {v132 : FVec Ideal S256x512 .bf16} {mask : IVec S256x256 1}
  (M : Masks v21 v22 v77 v132 mask) {x : Ld Ideal} {D : Fin 4 → Chunk} {S : Fin 4 → St} (H : IsLd x D S)
include M H

theorem t_at (i : Fin 64) (h : Fin 4) (j : Fin 64) : x.t v21 v22 v77 v132 (ix2 i (cs h j)) = (D h).t i j := by
  refine ((pt_at M _ h 5).2 i j).trans ?_
  have e : (fun i j => PM (F := Ideal) v21 (AQ v132 x.kb x.q x.k) x.dec (ix2 i (cs h j))) = fun i j => 0 - (D h).a i j := by
    funext i j
    rw [pm_at M]
    simp only [H.kb, H.k, H.dec]
    rfl
  rw [e]
  rfl

theorem vn_at (i : Fin 64) (h : Fin 4) (d : Fin 128) : x.vn v21 v22 v77 v132 (ix2 i (cl h d)) = (D h).vn (S h) i d := by
  obtain ⟨s, p, rfl⟩ := hd_split h
  have hu : ∀ h d, UU (F := Ideal) v132 (x.t v21 v22 v77 v132) x.vb (ix2 i (cl h d)) = (D h).u i d := fun h d => by
    rw [uu_at M]
    simp only [t_at M H, H.vb]
    rfl
  have hw : ∀ h d, UU (F := Ideal) v132 (x.t v21 v22 v77 v132) x.kbe (ix2 i (cl h d)) = (D h).w i d := fun h d => by
    rw [uu_at M]
    simp only [t_at M H, H.kbe]
    rfl
  pointwise [Ld.vn, VN]
  rw [hu, pr_at _ _ _ _ i s p d S (fun h e => (D h).w i e) H.s0 H.s1]
  · rfl
  · intro p e
    pointwise
    rw [cl0, hw]
  · intro p e
    pointwise
    rw [cl1, hw]

theorem o_at (i : Fin 64) (h : Fin 4) (d : Fin 128) : x.o v21 v22 v77 v132 (ix2 i (cl h d)) = (D h).o (S h) i d := by
  obtain ⟨s, p, rfl⟩ := hd_split h
  pointwise [Ld.o, OO]
  rw [sum_bdk' M, pr_at _ _ _ _ i s p d S (fun h e => (D h).qg i e) H.s0 H.s1]
  · refine congrArg₂ (· + ·) rfl (Finset.sum_congr rfl fun r _ => ?_)
    rw [vn_at M H]
    pointwise
    rw [aq_hi M]
    simp only [H.q, H.k, H.dec]
  · intro p e
    pointwise
    rw [H.qg0]
  · intro p e
    pointwise
    rw [H.qg1]

theorem n0_at (p : Fin 2) (e : Fin 128) (p' : Fin 2) (d : Fin 128) :
    x.n0 v21 v22 v77 v132 mask (ix4 0 0 (pp p e) (pp p' d)) = if p = p' then (D (hd 0 p')).next (S (hd 0 p')) e d else 0 := by
  pointwise [Ld.n0, NS, Gen.ST]
  rw [H.s0, M.pair, cl0, H.g]
  by_cases hp : p = p'
  · subst hp
    rw [if_pos rfl, if_pos rfl, if_pos rfl]
    refine congrArg₂ (· + ·) rfl (Finset.sum_congr rfl fun r _ => ?_)
    exact congrArg₂ (· * ·) (H.kg0 p r e) ((congrArg (fun z => x.vn v21 v22 v77 v132 (ix2 r z)) (cl0 p d _)).trans (vn_at M H r _ d))
  · rw [if_neg hp, if_neg hp, if_neg hp, zero_mul, add_zero]

theorem n1_at (p : Fin 2) (e : Fin 128) (p' : Fin 2) (d : Fin 128) :
    x.n1 v21 v22 v77 v132 mask (ix4 0 0 (pp p e) (pp p' d)) = if p = p' then (D (hd 1 p')).next (S (hd 1 p')) e d else 0 := by
  pointwise [Ld.n1, NS, Gen.ST]
  rw [H.s1, M.pair, cl1, H.g]
  by_cases hp : p = p'
  · subst hp
    rw [if_pos rfl, if_pos rfl, if_pos rfl]
    refine congrArg₂ (· + ·) rfl (Finset.sum_congr rfl fun r _ => ?_)
    exact congrArg₂ (· * ·) (H.kg1 p r e) ((congrArg (fun z => x.vn v21 v22 v77 v132 (ix2 r z)) (cl1 p d _)).trans (vn_at M H r _ d))
  · rw [if_neg hp, if_neg hp, if_neg hp, zero_mul, add_zero]

end Trip

theorem no_at (oh : FVec Ideal S64x128 .f32) (nw : Vec Ideal S1x128 .f32) (zs : Vec Ideal S1x64x128 .bf16) (i : Fin 64) (d : Fin 128) :
    NO (F := Ideal) oh nw zs (ix3 0 i d) = norm (fun e => oh (ix2 i e)) d (nw (ix2 0 d)) (zs (ix3 0 i d)) := by
  pointwise [NO]
  rfl

end Cert.Gdn

end
-- ==== Proof.GdnMask.lean ====
/- The masks of a trip. -/
module

public import proofs.«01_k».proof.Proof.KernelIdealRunA
public import proofs.«01_k».proof.Proof.KernelIdealRunB
public import proofs.«01_k».proof.Proof.GdnOps

@[expose] public section

set_option maxHeartbeats 4000000
set_option maxRecDepth 8192

noncomputable section

open Idealize.ShloMosaic Idealize.ShloMosaic.TcCoe Cert.Gdn Cert.KernelIdeal Cert.KernelIdeal.Gen

namespace Cert.Gdn

/-- The quotient rounded down, in words. -/
def fw (x d : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt d 0#32)) (Scalar.extui (Scalar.cmpi .slt d 0#32))))
    (IntOp.cmpi .ne (IntOp.remsi ArithUnit.vector x d) 0#32)) (IntOp.subi (IntOp.divsi ArithUnit.vector x d) 1#32) (IntOp.divsi ArithUnit.vector x d)

theorem fw64 : ∀ r : Fin 256, fw (BitVec.ofNat 32 r.val) 64#32 = BitVec.ofNat 32 (r.val / 64) := by decide +kernel
theorem fw128 : ∀ r : Fin 512, fw (BitVec.ofNat 32 r.val) 128#32 = BitVec.ofNat 32 (r.val / 128) := by decide +kernel

theorem w331 (i : Fin 64) (c : Fin 256) : k0_pay331 (ix2 i c) = BitVec.ofNat 32 (c.val % 64) := by
  pointwise [k0_pay331]
  revert c
  decide +kernel

theorem low_at (i : Fin 64) (h : Fin 4) (j : Fin 64) (a b : EReal) : Scalar.select (k0_pay332 (ix2 i (cs h j))) a b = if j < i then a else b := by
  have hv : (cs h j).val % 64 = j.val := by show (64 * h.val + j.val) % 64 = j.val; omega
  pointwise [k0_pay332]
  rw [w331, hv]
  exact sgt_eq i.val j.val (by omega) (by omega) a b

theorem diag_at (i : Fin 64) (h : Fin 4) (j : Fin 64) (a b : EReal) : Scalar.select (k0_pay333 (ix2 i (cs h j))) a b = if i = j then a else b := by
  have hv : (cs h j).val % 64 = j.val := by show (64 * h.val + j.val) % 64 = j.val; omega
  pointwise [k0_pay333]
  rw [w331, hv]
  refine (sel_eq i.val j.val (by omega) (by omega) a b).trans ?_
  simp only [Fin.ext_iff]

theorem b64_at (h : Fin 4) (i : Fin 64) (h' : Fin 4) (j : Fin 64) :
    (k0_pay338 (F := Ideal) k0_pay334 k0_pay335 k0_pay336 k0_pay337) (ix2 (cs h i) (cs h' j)) = if h = h' then 1 else 0 := by
  have e1 : (cs h i).val / 64 = h.val := by show (64 * h.val + i.val) / 64 = h.val; omega
  have e2 : (cs h' j).val / 64 = h'.val := by show (64 * h'.val + j.val) / 64 = h'.val; omega
  pointwise [k0_pay338, k0_pay334, k0_pay335, k0_pay336, k0_pay337]
  show Scalar.select (IntOp.cmpi .eq (fw (BitVec.ofNat 32 (cs h i).val) 64#32) (fw (BitVec.ofNat 32 (cs h' j).val) 64#32)) _ _ = _
  rw [fw64, fw64, e1, e2, sel_eq h.val h'.val (by omega) (by omega)]
  simp only [Fin.ext_iff]

theorem w344 (r c : Fin 256) : k0_pay344 (ix2 r c) = BitVec.ofNat 32 (c.val / 128) := by
  pointwise [k0_pay344]
  revert c
  decide +kernel

theorem b128_A (h : Fin 4) (i : Fin 64) (h' : Fin 4) (d : Fin 128) : (kernelRun0_A.sl.r (F := Ideal)) (ix2 (cs h i) (cl h' d)) = if h = h' then 1 else 0 := by
  have e1 : (cs h i).val / 64 = h.val := by show (64 * h.val + i.val) / 64 = h.val; omega
  have e2 : (cl h' d).val / 128 = h'.val := by show (128 * h'.val + d.val) / 128 = h'.val; omega
  unfold kernelRun0_A.sl.r
  pointwise [k0_pay341, k0_pay339, k0_pay340, kernelRun0_A.sl.v78]
  show Scalar.select (IntOp.cmpi .eq (fw (BitVec.ofNat 32 (cs h i).val) 64#32) (fw (BitVec.ofNat 32 (cl h' d).val) 128#32)) _ _ = _
  rw [fw64, fw128, e1, e2, sel_eq h.val h'.val (by omega) (by omega)]
  simp only [Fin.ext_iff]

theorem w343_A (r c : Fin 256) : kernelRun0_A.sl.r_1 (ix2 r c) = BitVec.ofNat 32 (r.val / 128) := by
  unfold kernelRun0_A.sl.r_1
  pointwise [k0_pay343, k0_pay342, kernelRun0_A.sl.v133]
  revert r
  decide +kernel

theorem masks_A : Masks k0_pay332 k0_pay333 (k0_pay338 (F := Ideal) k0_pay334 k0_pay335 k0_pay336 k0_pay337) (kernelRun0_A.sl.r (F := Ideal))
    (cmpi .eq kernelRun0_A.sl.r_1 k0_pay344) where
  low := low_at
  diag := diag_at
  b64 := b64_at
  b128 := b128_A
  pair p e p' d a b := by
    have e1 : (pp p e).val / 128 = p.val := by show (128 * p.val + e.val) / 128 = p.val; omega
    have e2 : (pp p' d).val / 128 = p'.val := by show (128 * p'.val + d.val) / 128 = p'.val; omega
    show Scalar.select (IntOp.cmpi .eq (kernelRun0_A.sl.r_1 (ix2 (pp p e) (pp p' d))) (k0_pay344 (ix2 (pp p e) (pp p' d)))) a b = _
    rw [w343_A, w344, e1, e2, sel_eq p.val p'.val (by omega) (by omega)]
    simp only [Fin.ext_iff]

theorem b128_B (h : Fin 4) (i : Fin 64) (h' : Fin 4) (d : Fin 128) : (kernelRun0_B.sl.r (F := Ideal)) (ix2 (cs h i) (cl h' d)) = if h = h' then 1 else 0 := by
  have e1 : (cs h i).val / 64 = h.val := by show (64 * h.val + i.val) / 64 = h.val; omega
  have e2 : (cl h' d).val / 128 = h'.val := by show (128 * h'.val + d.val) / 128 = h'.val; omega
  unfold kernelRun0_B.sl.r
  pointwise [k0_pay341, k0_pay339, k0_pay340, kernelRun0_B.sl.v78]
  show Scalar.select (IntOp.cmpi .eq (fw (BitVec.ofNat 32 (cs h i).val) 64#32) (fw (BitVec.ofNat 32 (cl h' d).val) 128#32)) _ _ = _
  rw [fw64, fw128, e1, e2, sel_eq h.val h'.val (by omega) (by omega)]
  simp only [Fin.ext_iff]

theorem w343_B (r c : Fin 256) : kernelRun0_B.sl.r_1 (ix2 r c) = BitVec.ofNat 32 (r.val / 128) := by
  unfold kernelRun0_B.sl.r_1
  pointwise [k0_pay343, k0_pay342, kernelRun0_B.sl.v133]
  revert r
  decide +kernel

theorem masks_B : Masks k0_pay332 k0_pay333 (k0_pay338 (F := Ideal) k0_pay334 k0_pay335 k0_pay336 k0_pay337) (kernelRun0_B.sl.r (F := Ideal))
    (cmpi .eq kernelRun0_B.sl.r_1 k0_pay344) where
  low := low_at
  diag := diag_at
  b64 := b64_at
  b128 := b128_B
  pair p e p' d a b := by
    have e1 : (pp p e).val / 128 = p.val := by show (128 * p.val + e.val) / 128 = p.val; omega
    have e2 : (pp p' d).val / 128 = p'.val := by show (128 * p'.val + d.val) / 128 = p'.val; omega
    show Scalar.select (IntOp.cmpi .eq (kernelRun0_B.sl.r_1 (ix2 (pp p e) (pp p' d))) (k0_pay344 (ix2 (pp p e) (pp p' d)))) a b = _
    rw [w343_B, w344, e1, e2, sel_eq p.val p'.val (by omega) (by omega)]
    simp only [Fin.ext_iff]

end Cert.Gdn

end
-- ==== Proof.GdnRun.lean ====
/- The two trips of a grid point: the pieces its stores leave. -/
module

public import proofs.«01_k».proof.Proof.KernelIdealRunA
public import proofs.«01_k».proof.Proof.KernelIdealRunB
public import proofs.«01_k».proof.Proof.GdnOps
public import proofs.«01_k».proof.Proof.GdnMask

@[expose] public section

set_option maxHeartbeats 4000000
set_option maxRecDepth 8192

noncomputable section

open Idealize.ShloMosaic Idealize.ShloMosaic.TcCoe Cert.Gdn Cert.KernelIdeal Cert.KernelIdeal.Gen

namespace Cert.Gdn

theorem run_B (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : ¬cond0_0 i)
        (x0 : Vec Ideal S8x128x512 .bf16) (x1 : Vec Ideal S8x128x512 .bf16) (x2 : Vec Ideal S8x128x512 .bf16) (x3 : Vec Ideal S8x128x512 .bf16) (x4 : Vec Ideal S8x128x512 .bf16) (x5 : Vec Ideal S8x128x512 .bf16) (x6 : Vec Ideal S8x128x512 .bf16) (x7 : Vec Ideal S8x128x512 .bf16) (x8 : Vec Ideal S8x128x256 .f32) (x9 : Vec Ideal S8x1x2x512 .f32) (x10 : Vec Ideal S1x128 .f32) (xs0 : Vec Ideal S8x2x256x256 .f32) :
    ∃ (v21 v22 : IVec S64x256 1) (v77 : FVec Ideal S256x256 .bf16) (v132 : FVec Ideal S256x512 .bf16) (v157 v182 : IVec S256x256 32),
      Masks v21 v22 v77 v132 (cmpi .eq v157 v182)
      ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).1 = (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) arg13.view.junk (harg14.unread xs0) 2).1
      ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0).2.1 = (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) arg13.view.junk (harg14.unread xs0) 2).2 := by
  refine ⟨_, _, _, _, _, _, ?_, by unfold kernelRun0_B; rfl, by unfold kernelRun0_B; rfl⟩
  exact masks_B

theorem run_A (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : cond0_0 i)
        (x0 : Vec Ideal S8x128x512 .bf16) (x1 : Vec Ideal S8x128x512 .bf16) (x2 : Vec Ideal S8x128x512 .bf16) (x3 : Vec Ideal S8x128x512 .bf16) (x4 : Vec Ideal S8x128x512 .bf16) (x5 : Vec Ideal S8x128x512 .bf16) (x6 : Vec Ideal S8x128x512 .bf16) (x7 : Vec Ideal S8x128x512 .bf16) (x8 : Vec Ideal S8x128x256 .f32) (x9 : Vec Ideal S8x1x2x512 .f32) (x10 : Vec Ideal S1x128 .f32) :
    ∃ (v21 v22 : IVec S64x256 1) (v77 : FVec Ideal S256x256 .bf16) (v132 : FVec Ideal S256x512 .bf16) (v157 v182 : IVec S256x256 32) (L0 : List (View.Piece (Elt Ideal) S8x2x256x256 .f32))
      (g : arg14.view.ty.Contents (Elt Ideal)),
      Masks v21 v22 v77 v132 (cmpi .eq v157 v182)
      ∧ (∀ y, arg14.view.read (Elt Ideal) g y = 0)
      ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1 = (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) arg13.view.junk g 2).1
      ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1 = (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) arg13.view.junk g 2).2 ++ L0 := by
  refine ⟨_, _, _, _, _, _, _, _, ?_, ?_, by unfold kernelRun0_A; rfl, by unfold kernelRun0_A; rfl⟩
  · exact masks_A
  · intro y
    unfold kernelRun0_A.sl.HS0_1
    refine View.read_writes_apply_of_pieces (Val := Elt Ideal) arg14.view _ (fun _ : S8x2x256x256.Idx => (0 : EReal)) _ ?_ y ?_
    · intro p hp x
      obtain rfl := List.mem_singleton.mp hp
      pointwise [k0_pay330]
    · exact View.cover_of_wholeMem _ (by sl_whole_mem) y

end Cert.Gdn

end
-- ==== Proof.GdnTripS.lean ====
/- The states one trip of the chunk loop writes. -/
module

public import proofs.«01_k».proof.Proof.GdnTrip

@[expose] public section
set_option maxRecDepth 8192
set_option maxHeartbeats 40000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

theorem trip_s (𝒱 : Variants) (c : Dev nD) (bd : Option 𝒱.V) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (v21 : IVec S64x256 1) (v22 : IVec S64x256 1) (v77 : FVec F S256x256 .bf16) (v132 : FVec F S256x512 .bf16) (v157 : IVec S256x256 32) (v182 : IVec S256x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (f : BufTy.Contents (Elt F) arg13.view.ty) (g : BufTy.Contents (Elt F) arg14.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v21 v22 v77 v132 v157 v182 X_arg2 X_arg3 X_arg4 X_arg5 X_arg6 X_arg7 X_arg8 X_arg9 X_arg10 X_arg11 X_arg12 k f g).2 = [
      ⟨Rect.unit (s := S8x2x256x256) ![7, 1, 0, 0] S1x1x256x256.size inb_S8x2x256x256_S1x1x256x256_7_1_0_0, (ld7 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![7, 0, 0, 0] S1x1x256x256.size inb_S8x2x256x256_S1x1x256x256_7_0_0_0, (ld7 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩,
      ⟨Rect.unit (s := S8x2x256x256) ![6, 1, 0, 0] S1x1x256x256.size inb_S8x2x256x256_S1x1x256x256_6_1_0_0, (ld6 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![6, 0, 0, 0] S1x1x256x256.size inb_S8x2x256x256_S1x1x256x256_6_0_0_0, (ld6 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩,
      ⟨Rect.unit (s := S8x2x256x256) ![5, 1, 0, 0] S1x1x256x256.size inb_S8x2x256x256_S1x1x256x256_5_1_0_0, (ld5 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![5, 0, 0, 0] S1x1x256x256.size inb_S8x2x256x256_S1x1x256x256_5_0_0_0, (ld5 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩,
      ⟨Rect.unit (s := S8x2x256x256) ![4, 1, 0, 0] S1x1x256x256.size inb_S8x2x256x256_S1x1x256x256_4_1_0_0, (ld4 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![4, 0, 0, 0] S1x1x256x256.size inb_S8x2x256x256_S1x1x256x256_4_0_0_0, (ld4 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩,
      ⟨Rect.unit (s := S8x2x256x256) ![3, 1, 0, 0] S1x1x256x256.size inb_S8x2x256x256_S1x1x256x256_3_1_0_0, (ld3 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![3, 0, 0, 0] S1x1x256x256.size inb_S8x2x256x256_S1x1x256x256_3_0_0_0, (ld3 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩,
      ⟨Rect.unit (s := S8x2x256x256) ![2, 1, 0, 0] S1x1x256x256.size inb_S8x2x256x256_S1x1x256x256_2_1_0_0, (ld2 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![2, 0, 0, 0] S1x1x256x256.size inb_S8x2x256x256_S1x1x256x256_2_0_0_0, (ld2 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩,
      ⟨Rect.unit (s := S8x2x256x256) ![1, 1, 0, 0] S1x1x256x256.size inb_S8x2x256x256_S1x1x256x256_1_1_0_0, (ld1 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![1, 0, 0, 0] S1x1x256x256.size inb_S8x2x256x256_S1x1x256x256_1_0_0_0, (ld1 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩,
      ⟨Rect.unit (s := S8x2x256x256) ![0, 1, 0, 0] S1x1x256x256.size inb_S8x2x256x256_S1x1x256x256_0_1_0_0, (ld0 arg2 arg3 arg4 arg5 arg6 arg7 arg8 arg9 arg10 arg11 arg12 arg13 arg14 X_arg2 X_arg3 X_arg4 X_arg5 X_arg6 X_arg7 X_arg8 X_arg9 X_arg10 X_arg11 X_arg12 k g).n1 v21 v22 v77 v132 (cmpi .eq v157 v182)⟩,
      ⟨Rect.unit (s := S8x2x256x256) ![0, 0, 0, 0] S1x1x256x256.size inb_S8x2x256x256_S1x1x256x256_0_0_0_0, (ld0 arg2 arg3 arg4 arg5 arg6 arg7 arg8 arg9 arg10 arg11 arg12 arg13 arg14 X_arg2 X_arg3 X_arg4 X_arg5 X_arg6 X_arg7 X_arg8 X_arg9 X_arg10 X_arg11 X_arg12 k g).n0 v21 v22 v77 v132 (cmpi .eq v157 v182)⟩] := by
  unfold tripL_k0_t1 trip_k0_t1
  rfl

end Cert.KernelIdeal.Gen

end
-- ==== Proof.GdnTripO.lean ====
/- The outputs one trip of the chunk loop writes. -/
module

public import proofs.«01_k».proof.Proof.GdnTrip

@[expose] public section
set_option maxRecDepth 8192
set_option maxHeartbeats 40000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

theorem trip_o (𝒱 : Variants) (c : Dev nD) (bd : Option 𝒱.V) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (v21 : IVec S64x256 1) (v22 : IVec S64x256 1) (v77 : FVec F S256x256 .bf16) (v132 : FVec F S256x512 .bf16) (v157 : IVec S256x256 32) (v182 : IVec S256x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin k0_t1_loop.trips) (f : BufTy.Contents (Elt F) arg13.view.ty) (g : BufTy.Contents (Elt F) arg14.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v21 v22 v77 v132 v157 v182 X_arg2 X_arg3 X_arg4 X_arg5 X_arg6 X_arg7 X_arg8 X_arg9 X_arg10 X_arg11 X_arg12 k f g).1 = [
      ⟨Rect.unit (s := S8x128x512) (k0_off72 k) S1x64x128.size (k0_off72_inb k), NO (extractStridedSlice S64x128 ![0, 384] ((ld7 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off72 k) S1x64x128.size (k0_off72_inb k)).toLoadRect X_arg9)⟩,
      ⟨Rect.unit (s := S8x128x512) (k0_off71 k) S1x64x128.size (k0_off71_inb k), NO (extractStridedSlice S64x128 ![0, 256] ((ld7 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off71 k) S1x64x128.size (k0_off71_inb k)).toLoadRect X_arg9)⟩,
      ⟨Rect.unit (s := S8x128x512) (k0_off70 k) S1x64x128.size (k0_off70_inb k), NO (extractStridedSlice S64x128 ![0, 128] ((ld7 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off70 k) S1x64x128.size (k0_off70_inb k)).toLoadRect X_arg9)⟩,
      ⟨Rect.unit (s := S8x128x512) (k0_off69 k) S1x64x128.size (k0_off69_inb k), NO (extractStridedSlice S64x128 ![0, 0] ((ld7 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off69 k) S1x64x128.size (k0_off69_inb k)).toLoadRect X_arg9)⟩,
      ⟨Rect.unit (s := S8x128x512) (k0_off67 k) S1x64x128.size (k0_off67_inb k), NO (extractStridedSlice S64x128 ![0, 384] ((ld6 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off67 k) S1x64x128.size (k0_off67_inb k)).toLoadRect X_arg9)⟩,
      ⟨Rect.unit (s := S8x128x512) (k0_off66 k) S1x64x128.size (k0_off66_inb k), NO (extractStridedSlice S64x128 ![0, 256] ((ld6 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off66 k) S1x64x128.size (k0_off66_inb k)).toLoadRect X_arg9)⟩,
      ⟨Rect.unit (s := S8x128x512) (k0_off65 k) S1x64x128.size (k0_off65_inb k), NO (extractStridedSlice S64x128 ![0, 128] ((ld6 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off65 k) S1x64x128.size (k0_off65_inb k)).toLoadRect X_arg9)⟩,
      ⟨Rect.unit (s := S8x128x512) (k0_off64 k) S1x64x128.size (k0_off64_inb k), NO (extractStridedSlice S64x128 ![0, 0] ((ld6 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off64 k) S1x64x128.size (k0_off64_inb k)).toLoadRect X_arg9)⟩,
      ⟨Rect.unit (s := S8x128x512) (k0_off62 k) S1x64x128.size (k0_off62_inb k), NO (extractStridedSlice S64x128 ![0, 384] ((ld5 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off62 k) S1x64x128.size (k0_off62_inb k)).toLoadRect X_arg9)⟩,
      ⟨Rect.unit (s := S8x128x512) (k0_off61 k) S1x64x128.size (k0_off61_inb k), NO (extractStridedSlice S64x128 ![0, 256] ((ld5 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off61 k) S1x64x128.size (k0_off61_inb k)).toLoadRect X_arg9)⟩,
      ⟨Rect.unit (s := S8x128x512) (k0_off60 k) S1x64x128.size (k0_off60_inb k), NO (extractStridedSlice S64x128 ![0, 128] ((ld5 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off60 k) S1x64x128.size (k0_off60_inb k)).toLoadRect X_arg9)⟩,
      ⟨Rect.unit (s := S8x128x512) (k0_off59 k) S1x64x128.size (k0_off59_inb k), NO (extractStridedSlice S64x128 ![0, 0] ((ld5 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off59 k) S1x64x128.size (k0_off59_inb k)).toLoadRect X_arg9)⟩,
      ⟨Rect.unit (s := S8x128x512) (k0_off57 k) S1x64x128.size (k0_off57_inb k), NO (extractStridedSlice S64x128 ![0, 384] ((ld4 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off57 k) S1x64x128.size (k0_off57_inb k)).toLoadRect X_arg9)⟩,
      ⟨Rect.unit (s := S8x128x512) (k0_off56 k) S1x64x128.size (k0_off56_inb k), NO (extractStridedSlice S64x128 ![0, 256] ((ld4 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off56 k) S1x64x128.size (k0_off56_inb k)).toLoadRect X_arg9)⟩,
      ⟨Rect.unit (s := S8x128x512) (k0_off55 k) S1x64x128.size (k0_off55_inb k), NO (extractStridedSlice S64x128 ![0, 128] ((ld4 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off55 k) S1x64x128.size (k0_off55_inb k)).toLoadRect X_arg9)⟩,
      ⟨Rect.unit (s := S8x128x512) (k0_off54 k) S1x64x128.size (k0_off54_inb k), NO (extractStridedSlice S64x128 ![0, 0] ((ld4 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off54 k) S1x64x128.size (k0_off54_inb k)).toLoadRect X_arg9)⟩,
      ⟨Rect.unit (s := S8x128x512) (k0_off52 k) S1x64x128.size (k0_off52_inb k), NO (extractStridedSlice S64x128 ![0, 384] ((ld3 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off52 k) S1x64x128.size (k0_off52_inb k)).toLoadRect X_arg9)⟩,
      ⟨Rect.unit (s := S8x128x512) (k0_off51 k) S1x64x128.size (k0_off51_inb k), NO (extractStridedSlice S64x128 ![0, 256] ((ld3 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off51 k) S1x64x128.size (k0_off51_inb k)).toLoadRect X_arg9)⟩,
      ⟨Rect.unit (s := S8x128x512) (k0_off50 k) S1x64x128.size (k0_off50_inb k), NO (extractStridedSlice S64x128 ![0, 128] ((ld3 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off50 k) S1x64x128.size (k0_off50_inb k)).toLoadRect X_arg9)⟩,
      ⟨Rect.unit (s := S8x128x512) (k0_off49 k) S1x64x128.size (k0_off49_inb k), NO (extractStridedSlice S64x128 ![0, 0] ((ld3 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off49 k) S1x64x128.size (k0_off49_inb k)).toLoadRect X_arg9)⟩,
      ⟨Rect.unit (s := S8x128x512) (k0_off47 k) S1x64x128.size (k0_off47_inb k), NO (extractStridedSlice S64x128 ![0, 384] ((ld2 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off47 k) S1x64x128.size (k0_off47_inb k)).toLoadRect X_arg9)⟩,
      ⟨Rect.unit (s := S8x128x512) (k0_off46 k) S1x64x128.size (k0_off46_inb k), NO (extractStridedSlice S64x128 ![0, 256] ((ld2 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off46 k) S1x64x128.size (k0_off46_inb k)).toLoadRect X_arg9)⟩,
      ⟨Rect.unit (s := S8x128x512) (k0_off45 k) S1x64x128.size (k0_off45_inb k), NO (extractStridedSlice S64x128 ![0, 128] ((ld2 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off45 k) S1x64x128.size (k0_off45_inb k)).toLoadRect X_arg9)⟩,
      ⟨Rect.unit (s := S8x128x512) (k0_off44 k) S1x64x128.size (k0_off44_inb k), NO (extractStridedSlice S64x128 ![0, 0] ((ld2 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off44 k) S1x64x128.size (k0_off44_inb k)).toLoadRect X_arg9)⟩,
      ⟨Rect.unit (s := S8x128x512) (k0_off42 k) S1x64x128.size (k0_off42_inb k), NO (extractStridedSlice S64x128 ![0, 384] ((ld1 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off42 k) S1x64x128.size (k0_off42_inb k)).toLoadRect X_arg9)⟩,
      ⟨Rect.unit (s := S8x128x512) (k0_off41 k) S1x64x128.size (k0_off41_inb k), NO (extractStridedSlice S64x128 ![0, 256] ((ld1 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off41 k) S1x64x128.size (k0_off41_inb k)).toLoadRect X_arg9)⟩,
      ⟨Rect.unit (s := S8x128x512) (k0_off40 k) S1x64x128.size (k0_off40_inb k), NO (extractStridedSlice S64x128 ![0, 128] ((ld1 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off40 k) S1x64x128.size (k0_off40_inb k)).toLoadRect X_arg9)⟩,
      ⟨Rect.unit (s := S8x128x512) (k0_off39 k) S1x64x128.size (k0_off39_inb k), NO (extractStridedSlice S64x128 ![0, 0] ((ld1 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off39 k) S1x64x128.size (k0_off39_inb k)).toLoadRect X_arg9)⟩,
      ⟨Rect.unit (s := S8x128x512) (k0_off37 k) S1x64x128.size (k0_off37_inb k), NO (extractStridedSlice S64x128 ![0, 384] ((ld0 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_384_S64x128) (View.readAt (Elt F) arg12.view (Rect.unit (s := S1x128) ![0, 0] S1x128.size inb_S1x128_S1x128_0_0).toLoadRect X_arg12) (View.readAt (Elt F) arg9.view (Rect.unit (s := S8x128x512) (k0_off37 k) S1x64x128.size (k0_off37_inb k)).toLoadRect X_arg9)⟩,
      ⟨Rect.unit (s := S8x128x512) (k0_off36 k) S1x64x128.size (k0_off36_inb k), NO (extractStridedSlice S64x128 ![0, 256] ((ld0 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_256_S64x128) (View.readAt (Elt F) arg12.view (Rect.unit (s := S1x128) ![0, 0] S1x128.size inb_S1x128_S1x128_0_0).toLoadRect X_arg12) (View.readAt (Elt F) arg9.view (Rect.unit (s := S8x128x512) (k0_off36 k) S1x64x128.size (k0_off36_inb k)).toLoadRect X_arg9)⟩,
      ⟨Rect.unit (s := S8x128x512) (k0_off35 k) S1x64x128.size (k0_off35_inb k), NO (extractStridedSlice S64x128 ![0, 128] ((ld0 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_128_S64x128) (View.readAt (Elt F) arg12.view (Rect.unit (s := S1x128) ![0, 0] S1x128.size inb_S1x128_S1x128_0_0).toLoadRect X_arg12) (View.readAt (Elt F) arg9.view (Rect.unit (s := S8x128x512) (k0_off35 k) S1x64x128.size (k0_off35_inb k)).toLoadRect X_arg9)⟩,
      ⟨Rect.unit (s := S8x128x512) (k0_off34 k) S1x64x128.size (k0_off34_inb k), NO (extractStridedSlice S64x128 ![0, 0] ((ld0 arg2 arg3 arg4 arg5 arg6 arg7 arg8 arg9 arg10 arg11 arg12 arg13 arg14 X_arg2 X_arg3 X_arg4 X_arg5 X_arg6 X_arg7 X_arg8 X_arg9 X_arg10 X_arg11 X_arg12 k g).o v21 v22 v77 v132) slices_S64x512_o0_0_S64x128) (View.readAt (Elt F) arg12.view (Rect.unit (s := S1x128) ![0, 0] S1x128.size inb_S1x128_S1x128_0_0).toLoadRect X_arg12) (View.readAt (Elt F) arg9.view (Rect.unit (s := S8x128x512) (k0_off34 k) S1x64x128.size (k0_off34_inb k)).toLoadRect X_arg9)⟩] := by
  unfold tripL_k0_t1 trip_k0_t1
  rfl

end Cert.KernelIdeal.Gen

end
-- ==== Proof.GdnPoint.lean ====
/- The blocks one trip reads, and the pieces it leaves, as entries of the whole arrays. -/
module

public import proofs.«01_k».proof.Proof.GdnOps
public import proofs.«01_k».proof.Proof.GdnTripS
public import proofs.«01_k».proof.Proof.GdnTripO
public import Idealize.ShloMosaic.Lib.WholeRead

@[expose] public section

set_option maxHeartbeats 4000000
set_option maxRecDepth 8192

noncomputable section

open Idealize.ShloMosaic Idealize.ShloMosaic.TcCoe Cert.Gdn Cert.KernelIdeal Cert.KernelIdeal.Gen

namespace Cert.Gdn

theorem off1_eq : ∀ k : Fin k0_t1_loop.trips, k0_off1 k = ![0, 64 * k.val, 0] := by decide +kernel
theorem off2_eq : ∀ k : Fin k0_t1_loop.trips, k0_off2 k = ![1, 64 * k.val, 0] := by decide +kernel
theorem off3_eq : ∀ k : Fin k0_t1_loop.trips, k0_off3 k = ![2, 64 * k.val, 0] := by decide +kernel
theorem off4_eq : ∀ k : Fin k0_t1_loop.trips, k0_off4 k = ![3, 64 * k.val, 0] := by decide +kernel
theorem off5_eq : ∀ k : Fin k0_t1_loop.trips, k0_off5 k = ![4, 64 * k.val, 0] := by decide +kernel
theorem off6_eq : ∀ k : Fin k0_t1_loop.trips, k0_off6 k = ![5, 64 * k.val, 0] := by decide +kernel
theorem off7_eq : ∀ k : Fin k0_t1_loop.trips, k0_off7 k = ![6, 64 * k.val, 0] := by decide +kernel
theorem off8_eq : ∀ k : Fin k0_t1_loop.trips, k0_off8 k = ![7, 64 * k.val, 0] := by decide +kernel
theorem off9_eq : ∀ k : Fin k0_t1_loop.trips, k0_off9 k = ![0, 64 * k.val, 0] := by decide +kernel
theorem off10_eq : ∀ k : Fin k0_t1_loop.trips, k0_off10 k = ![1, 64 * k.val, 0] := by decide +kernel
theorem off11_eq : ∀ k : Fin k0_t1_loop.trips, k0_off11 k = ![2, 64 * k.val, 0] := by decide +kernel
theorem off12_eq : ∀ k : Fin k0_t1_loop.trips, k0_off12 k = ![3, 64 * k.val, 0] := by decide +kernel
theorem off13_eq : ∀ k : Fin k0_t1_loop.trips, k0_off13 k = ![4, 64 * k.val, 0] := by decide +kernel
theorem off14_eq : ∀ k : Fin k0_t1_loop.trips, k0_off14 k = ![5, 64 * k.val, 0] := by decide +kernel
theorem off15_eq : ∀ k : Fin k0_t1_loop.trips, k0_off15 k = ![6, 64 * k.val, 0] := by decide +kernel
theorem off16_eq : ∀ k : Fin k0_t1_loop.trips, k0_off16 k = ![7, 64 * k.val, 0] := by decide +kernel
theorem off17_eq : ∀ k : Fin k0_t1_loop.trips, k0_off17 k = ![0, 64 * k.val, 0] := by decide +kernel
theorem off18_eq : ∀ k : Fin k0_t1_loop.trips, k0_off18 k = ![0, 64 * k.val, 256] := by decide +kernel
theorem off19_eq : ∀ k : Fin k0_t1_loop.trips, k0_off19 k = ![1, 64 * k.val, 0] := by decide +kernel
theorem off20_eq : ∀ k : Fin k0_t1_loop.trips, k0_off20 k = ![1, 64 * k.val, 256] := by decide +kernel
theorem off21_eq : ∀ k : Fin k0_t1_loop.trips, k0_off21 k = ![2, 64 * k.val, 0] := by decide +kernel
theorem off22_eq : ∀ k : Fin k0_t1_loop.trips, k0_off22 k = ![2, 64 * k.val, 256] := by decide +kernel
theorem off23_eq : ∀ k : Fin k0_t1_loop.trips, k0_off23 k = ![3, 64 * k.val, 0] := by decide +kernel
theorem off24_eq : ∀ k : Fin k0_t1_loop.trips, k0_off24 k = ![3, 64 * k.val, 256] := by decide +kernel
theorem off25_eq : ∀ k : Fin k0_t1_loop.trips, k0_off25 k = ![4, 64 * k.val, 0] := by decide +kernel
theorem off26_eq : ∀ k : Fin k0_t1_loop.trips, k0_off26 k = ![4, 64 * k.val, 256] := by decide +kernel
theorem off27_eq : ∀ k : Fin k0_t1_loop.trips, k0_off27 k = ![5, 64 * k.val, 0] := by decide +kernel
theorem off28_eq : ∀ k : Fin k0_t1_loop.trips, k0_off28 k = ![5, 64 * k.val, 256] := by decide +kernel
theorem off29_eq : ∀ k : Fin k0_t1_loop.trips, k0_off29 k = ![6, 64 * k.val, 0] := by decide +kernel
theorem off30_eq : ∀ k : Fin k0_t1_loop.trips, k0_off30 k = ![6, 64 * k.val, 256] := by decide +kernel
theorem off31_eq : ∀ k : Fin k0_t1_loop.trips, k0_off31 k = ![7, 64 * k.val, 0] := by decide +kernel
theorem off32_eq : ∀ k : Fin k0_t1_loop.trips, k0_off32 k = ![7, 64 * k.val, 256] := by decide +kernel
theorem off33_eq : ∀ k : Fin k0_t1_loop.trips, k0_off33 k = ![0, 0, k.val, 0] := by decide +kernel
theorem off34_eq : ∀ k : Fin k0_t1_loop.trips, k0_off34 k = ![0, 64 * k.val, 0] := by decide +kernel
theorem off35_eq : ∀ k : Fin k0_t1_loop.trips, k0_off35 k = ![0, 64 * k.val, 128] := by decide +kernel
theorem off36_eq : ∀ k : Fin k0_t1_loop.trips, k0_off36 k = ![0, 64 * k.val, 256] := by decide +kernel
theorem off37_eq : ∀ k : Fin k0_t1_loop.trips, k0_off37 k = ![0, 64 * k.val, 384] := by decide +kernel
theorem off38_eq : ∀ k : Fin k0_t1_loop.trips, k0_off38 k = ![1, 0, k.val, 0] := by decide +kernel
theorem off39_eq : ∀ k : Fin k0_t1_loop.trips, k0_off39 k = ![1, 64 * k.val, 0] := by decide +kernel
theorem off40_eq : ∀ k : Fin k0_t1_loop.trips, k0_off40 k = ![1, 64 * k.val, 128] := by decide +kernel
theorem off41_eq : ∀ k : Fin k0_t1_loop.trips, k0_off41 k = ![1, 64 * k.val, 256] := by decide +kernel
theorem off42_eq : ∀ k : Fin k0_t1_loop.trips, k0_off42 k = ![1, 64 * k.val, 384] := by decide +kernel
theorem off43_eq : ∀ k : Fin k0_t1_loop.trips, k0_off43 k = ![2, 0, k.val, 0] := by decide +kernel
theorem off44_eq : ∀ k : Fin k0_t1_loop.trips, k0_off44 k = ![2, 64 * k.val, 0] := by decide +kernel
theorem off45_eq : ∀ k : Fin k0_t1_loop.trips, k0_off45 k = ![2, 64 * k.val, 128] := by decide +kernel
theorem off46_eq : ∀ k : Fin k0_t1_loop.trips, k0_off46 k = ![2, 64 * k.val, 256] := by decide +kernel
theorem off47_eq : ∀ k : Fin k0_t1_loop.trips, k0_off47 k = ![2, 64 * k.val, 384] := by decide +kernel
theorem off48_eq : ∀ k : Fin k0_t1_loop.trips, k0_off48 k = ![3, 0, k.val, 0] := by decide +kernel
theorem off49_eq : ∀ k : Fin k0_t1_loop.trips, k0_off49 k = ![3, 64 * k.val, 0] := by decide +kernel
theorem off50_eq : ∀ k : Fin k0_t1_loop.trips, k0_off50 k = ![3, 64 * k.val, 128] := by decide +kernel
theorem off51_eq : ∀ k : Fin k0_t1_loop.trips, k0_off51 k = ![3, 64 * k.val, 256] := by decide +kernel
theorem off52_eq : ∀ k : Fin k0_t1_loop.trips, k0_off52 k = ![3, 64 * k.val, 384] := by decide +kernel
theorem off53_eq : ∀ k : Fin k0_t1_loop.trips, k0_off53 k = ![4, 0, k.val, 0] := by decide +kernel
theorem off54_eq : ∀ k : Fin k0_t1_loop.trips, k0_off54 k = ![4, 64 * k.val, 0] := by decide +kernel
theorem off55_eq : ∀ k : Fin k0_t1_loop.trips, k0_off55 k = ![4, 64 * k.val, 128] := by decide +kernel
theorem off56_eq : ∀ k : Fin k0_t1_loop.trips, k0_off56 k = ![4, 64 * k.val, 256] := by decide +kernel
theorem off57_eq : ∀ k : Fin k0_t1_loop.trips, k0_off57 k = ![4, 64 * k.val, 384] := by decide +kernel
theorem off58_eq : ∀ k : Fin k0_t1_loop.trips, k0_off58 k = ![5, 0, k.val, 0] := by decide +kernel
theorem off59_eq : ∀ k : Fin k0_t1_loop.trips, k0_off59 k = ![5, 64 * k.val, 0] := by decide +kernel
theorem off60_eq : ∀ k : Fin k0_t1_loop.trips, k0_off60 k = ![5, 64 * k.val, 128] := by decide +kernel
theorem off61_eq : ∀ k : Fin k0_t1_loop.trips, k0_off61 k = ![5, 64 * k.val, 256] := by decide +kernel
theorem off62_eq : ∀ k : Fin k0_t1_loop.trips, k0_off62 k = ![5, 64 * k.val, 384] := by decide +kernel
theorem off63_eq : ∀ k : Fin k0_t1_loop.trips, k0_off63 k = ![6, 0, k.val, 0] := by decide +kernel
theorem off64_eq : ∀ k : Fin k0_t1_loop.trips, k0_off64 k = ![6, 64 * k.val, 0] := by decide +kernel
theorem off65_eq : ∀ k : Fin k0_t1_loop.trips, k0_off65 k = ![6, 64 * k.val, 128] := by decide +kernel
theorem off66_eq : ∀ k : Fin k0_t1_loop.trips, k0_off66 k = ![6, 64 * k.val, 256] := by decide +kernel
theorem off67_eq : ∀ k : Fin k0_t1_loop.trips, k0_off67 k = ![6, 64 * k.val, 384] := by decide +kernel
theorem off68_eq : ∀ k : Fin k0_t1_loop.trips, k0_off68 k = ![7, 0, k.val, 0] := by decide +kernel
theorem off69_eq : ∀ k : Fin k0_t1_loop.trips, k0_off69 k = ![7, 64 * k.val, 0] := by decide +kernel
theorem off70_eq : ∀ k : Fin k0_t1_loop.trips, k0_off70 k = ![7, 64 * k.val, 128] := by decide +kernel
theorem off71_eq : ∀ k : Fin k0_t1_loop.trips, k0_off71 k = ![7, 64 * k.val, 256] := by decide +kernel
theorem off72_eq : ∀ k : Fin k0_t1_loop.trips, k0_off72 k = ![7, 64 * k.val, 384] := by decide +kernel

/-- Row `r` of block `t`. -/
def tr (t : ℕ) (r : Fin 128) : Fin 8192 := ⟨(128 * t + r.val) % 8192, Nat.mod_lt _ (by norm_num)⟩

theorem k_lt (k : Fin k0_t1_loop.trips) : k.val < 2 := lt_of_lt_of_eq k.isLt (by decide)

/-- Row `i` of trip `k`. -/
def row (k : Fin k0_t1_loop.trips) (i : Fin 64) : Fin 128 := ⟨64 * k.val + i.val, by have := k_lt k; omega⟩

theorem tr_row (t : ℕ) (k : Fin k0_t1_loop.trips) (i : Fin 64) : tr t (row k i) = tk (2 * t + k.val) i := Fin.ext (by
  show (128 * t + (64 * k.val + i.val)) % 8192 = (64 * (2 * t + k.val) + i.val) % 8192
  congr 1; omega)

/-- The blocks of point `t`. -/
structure Blk (X : Arrs) (zs : A512) (nw : FVec Ideal ⟨1, ![128]⟩ .f32) (t : ℕ)
    (x0 x1 x2 x3 x4 x5 x6 x7 : Vec Ideal S8x128x512 .bf16) (x8 : Vec Ideal S8x128x256 .f32)
    (x9 : Vec Ideal S8x1x2x512 .f32) (x10 : Vec Ideal S1x128 .f32) : Prop where
  q : ∀ b r c, x0 (ix3 b r c) = X.q (ix3 b (tr t r) c)
  k : ∀ b r c, x1 (ix3 b r c) = X.k (ix3 b (tr t r) c)
  kb : ∀ b r c, x2 (ix3 b r c) = X.kb (ix3 b (tr t r) c)
  vb : ∀ b r c, x3 (ix3 b r c) = X.vb (ix3 b (tr t r) c)
  kbe : ∀ b r c, x4 (ix3 b r c) = X.kbe (ix3 b (tr t r) c)
  qg : ∀ b r c, x5 (ix3 b r c) = X.qg (ix3 b (tr t r) c)
  kg : ∀ b r c, x6 (ix3 b r c) = X.kg (ix3 b (tr t r) c)
  zs : ∀ b r c, x7 (ix3 b r c) = zs (ix3 b (tr t r) c)
  dec : ∀ b r c, x8 (ix3 b r c) = X.dec (ix3 b (tr t r) c)
  g : ∀ b (k : Fin 2) c, x9 (ix4 b 0 k c) = X.g (ix3 b ⟨(2 * t + k.val) % 128, Nat.mod_lt _ (by norm_num)⟩ c)
  nw : ∀ d, x10 (ix2 0 d) = nw (ix1 d)

/-- The states of the eight sequences, two heads to a square block. -/
def BS (S : Fin 8 → Fin 4 → St) (y : S8x2x256x256.Idx) : EReal :=
  if (y 2 : Fin 256).val / 128 = (y 3 : Fin 256).val / 128 then
    S (y 0) (hd (y 1) ⟨(y 3 : Fin 256).val / 128, Nat.div_lt_of_lt_mul (show (y 3 : Fin 256).val < 128 * 2 from (y 3 : Fin 256).isLt)⟩)
      ⟨(y 2 : Fin 256).val % 128, Nat.mod_lt _ (by norm_num)⟩ ⟨(y 3 : Fin 256).val % 128, Nat.mod_lt _ (by norm_num)⟩
  else 0

theorem pp_div (p : Fin 2) (d : Fin 128) : (pp p d).val / 128 = p.val := by
  show (128 * p.val + d.val) / 128 = p.val
  omega
theorem pp_mod (p : Fin 2) (d : Fin 128) : (pp p d).val % 128 = d.val := by
  show (128 * p.val + d.val) % 128 = d.val
  omega

theorem bs_at (S : Fin 8 → Fin 4 → St) (b : Fin 8) (s p p' : Fin 2) (e d : Fin 128) :
    BS S (ix4 b s (pp p e) (pp p' d)) = if p = p' then S b (hd s p') e d else 0 := by
  show (if (pp p e).val / 128 = (pp p' d).val / 128 then
    S b (hd s ⟨(pp p' d).val / 128, _⟩) ⟨(pp p e).val % 128, _⟩ ⟨(pp p' d).val % 128, _⟩ else 0) = _
  have h1 : (⟨(pp p' d).val / 128, by have := (pp p' d).isLt; omega⟩ : Fin 2) = p' := Fin.ext (pp_div p' d)
  have h2 : (⟨(pp p e).val % 128, Nat.mod_lt _ (by norm_num)⟩ : Fin 128) = e := Fin.ext (pp_mod p e)
  have h3 : (⟨(pp p' d).val % 128, Nat.mod_lt _ (by norm_num)⟩ : Fin 128) = d := Fin.ext (pp_mod p' d)
  rw [h1, h2, h3, pp_div, pp_div]
  by_cases h : p = p'
  · rw [if_pos h, if_pos (congrArg Fin.val h)]
  · rw [if_neg h, if_neg (fun e => h (Fin.ext e))]

theorem rd3 {n0 n1 n2 m0 m1 m2 : ℕ} {e : EltTy} (a : Memref sig .tc .vmem ⟨3, ![n0, n1, n2]⟩ e) (h : a.IsWhole)
    (X : Vec Ideal ⟨3, ![n0, n1, n2]⟩ e) (off : Fin 3 → ℕ) (inb : ∀ a, off a + ![m0, m1, m2] a ≤ ![n0, n1, n2] a)
    (o0 o1 o2 : ℕ) (ho : off = ![o0, o1, o2]) (x0 : Fin m0) (x1 : Fin m1) (x2 : Fin m2) (y0 : Fin n0) (y1 : Fin n1) (y2 : Fin n2)
    (h0 : y0.val = o0 + x0.val) (h1 : y1.val = o1 + x1.val) (h2 : y2.val = o2 + x2.val) :
    View.readAt (Elt Ideal) a.view (Rect.unit (s := ⟨3, ![n0, n1, n2]⟩) off ![m0, m1, m2] inb).toLoadRect (h.unread X) (ix3 x0 x1 x2)
      = X (ix3 y0 y1 y2) := by
  subst ho
  rw [Memref.IsWhole.readAt_unread]
  refine congrArg X (funext fun j => Fin.ext ?_)
  fin_cases j
  · show o0 + 1 * x0.val = y0.val; omega
  · show o1 + 1 * x1.val = y1.val; omega
  · show o2 + 1 * x2.val = y2.val; omega

theorem rd2 {n0 n1 m0 m1 : ℕ} {e : EltTy} (a : Memref sig .tc .vmem ⟨2, ![n0, n1]⟩ e) (h : a.IsWhole)
    (X : Vec Ideal ⟨2, ![n0, n1]⟩ e) (inb : ∀ a, ![0, 0] a + ![m0, m1] a ≤ ![n0, n1] a)
    (x0 : Fin m0) (x1 : Fin m1) (y0 : Fin n0) (y1 : Fin n1) (h0 : y0.val = x0.val) (h1 : y1.val = x1.val) :
    View.readAt (Elt Ideal) a.view (Rect.unit (s := ⟨2, ![n0, n1]⟩) ![0, 0] ![m0, m1] inb).toLoadRect (h.unread X) (ix2 x0 x1)
      = X (ix2 y0 y1) := by
  rw [Memref.IsWhole.readAt_unread]
  refine congrArg X (funext fun j => Fin.ext ?_)
  fin_cases j
  · show 0 + 1 * x0.val = y0.val; omega
  · show 0 + 1 * x1.val = y1.val; omega

theorem rd4 {n0 n1 n2 n3 m0 m1 m2 m3 : ℕ} {e : EltTy} (a : Memref sig .tc .vmem ⟨4, ![n0, n1, n2, n3]⟩ e)
    (f : a.view.ty.Contents (Elt Ideal)) (off : Fin 4 → ℕ) (inb : ∀ a, off a + ![m0, m1, m2, m3] a ≤ ![n0, n1, n2, n3] a)
    (o0 o1 o2 o3 : ℕ) (ho : off = ![o0, o1, o2, o3]) (x0 : Fin m0) (x1 : Fin m1) (x2 : Fin m2) (x3 : Fin m3)
    (y0 : Fin n0) (y1 : Fin n1) (y2 : Fin n2) (y3 : Fin n3)
    (h0 : y0.val = o0 + x0.val) (h1 : y1.val = o1 + x1.val) (h2 : y2.val = o2 + x2.val) (h3 : y3.val = o3 + x3.val) :
    View.readAt (Elt Ideal) a.view (Rect.unit (s := ⟨4, ![n0, n1, n2, n3]⟩) off ![m0, m1, m2, m3] inb).toLoadRect f (ix4 x0 x1 x2 x3)
      = a.view.read (Elt Ideal) f (ix4 y0 y1 y2 y3) := by
  subst ho
  rw [View.readAt_apply]
  refine congrArg (a.view.read (Elt Ideal) f) (funext fun j => Fin.ext ?_)
  fin_cases j
  · show o0 + 1 * x0.val = y0.val; omega
  · show o1 + 1 * x1.val = y1.val; omega
  · show o2 + 1 * x2.val = y2.val; omega
  · show o3 + 1 * x3.val = y3.val; omega

section Reads

variable (X : Arrs) (zs : A512) (nw : FVec Ideal ⟨1, ![128]⟩ .f32) (t : ℕ)
    (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole)
    (x0 x1 x2 x3 x4 x5 x6 x7 : Vec Ideal S8x128x512 .bf16) (x8 : Vec Ideal S8x128x256 .f32)
    (x9 : Vec Ideal S8x1x2x512 .f32) (x10 : Vec Ideal S1x128 .f32)
    (B : Blk X zs nw t x0 x1 x2 x3 x4 x5 x6 x7 x8 x9 x10)
include B

theorem isld_of (b : Fin 8) (k : Fin k0_t1_loop.trips) (f : arg14.view.ty.Contents (Elt Ideal)) (S : Fin 8 → Fin 4 → St)
    (hS : ∀ y, arg14.view.read (Elt Ideal) f y = BS S y)
    (offA : Fin 3 → ℕ) (inbA : ∀ a, offA a + S1x64x512.size a ≤ S8x128x512.size a) (hA : offA = ![b.val, 64 * k.val, 0])
    (offP0 : Fin 3 → ℕ) (inbP0 : ∀ a, offP0 a + S1x64x256.size a ≤ S8x128x512.size a) (hP0 : offP0 = ![b.val, 64 * k.val, 0])
    (offP1 : Fin 3 → ℕ) (inbP1 : ∀ a, offP1 a + S1x64x256.size a ≤ S8x128x512.size a) (hP1 : offP1 = ![b.val, 64 * k.val, 256])
    (offD : Fin 3 → ℕ) (inbD : ∀ a, offD a + S1x64x256.size a ≤ S8x128x256.size a) (hD : offD = ![b.val, 64 * k.val, 0])
    (offG : Fin 4 → ℕ) (inbG : ∀ a, offG a + S1x1x1x512.size a ≤ S8x1x2x512.size a) (hG : offG = ![b.val, 0, k.val, 0])
    (offS0 : Fin 4 → ℕ) (inbS0 : ∀ a, offS0 a + S1x1x256x256.size a ≤ S8x2x256x256.size a) (hS0 : offS0 = ![b.val, 0, 0, 0])
    (offS1 : Fin 4 → ℕ) (inbS1 : ∀ a, offS1 a + S1x1x256x256.size a ≤ S8x2x256x256.size a) (hS1 : offS1 = ![b.val, 1, 0, 0])
    :
    IsLd ⟨View.readAt (Elt Ideal) arg2.view (Rect.unit (s := S8x128x512) offA S1x64x512.size inbA).toLoadRect (harg2.unread x0),
      View.readAt (Elt Ideal) arg3.view (Rect.unit (s := S8x128x512) offA S1x64x512.size inbA).toLoadRect (harg3.unread x1),
      View.readAt (Elt Ideal) arg4.view (Rect.unit (s := S8x128x512) offA S1x64x512.size inbA).toLoadRect (harg4.unread x2),
      View.readAt (Elt Ideal) arg5.view (Rect.unit (s := S8x128x512) offA S1x64x512.size inbA).toLoadRect (harg5.unread x3),
      View.readAt (Elt Ideal) arg6.view (Rect.unit (s := S8x128x512) offA S1x64x512.size inbA).toLoadRect (harg6.unread x4),
      View.readAt (Elt Ideal) arg7.view (Rect.unit (s := S8x128x512) offP0 S1x64x256.size inbP0).toLoadRect (harg7.unread x5),
      View.readAt (Elt Ideal) arg7.view (Rect.unit (s := S8x128x512) offP1 S1x64x256.size inbP1).toLoadRect (harg7.unread x5),
      View.readAt (Elt Ideal) arg8.view (Rect.unit (s := S8x128x512) offP0 S1x64x256.size inbP0).toLoadRect (harg8.unread x6),
      View.readAt (Elt Ideal) arg8.view (Rect.unit (s := S8x128x512) offP1 S1x64x256.size inbP1).toLoadRect (harg8.unread x6),
      View.readAt (Elt Ideal) arg10.view (Rect.unit (s := S8x128x256) offD S1x64x256.size inbD).toLoadRect (harg10.unread x8),
      View.readAt (Elt Ideal) arg11.view (Rect.unit (s := S8x1x2x512) offG S1x1x1x512.size inbG).toLoadRect (harg11.unread x9),
      View.readAt (Elt Ideal) arg14.view (Rect.unit (s := S8x2x256x256) offS0 S1x1x256x256.size inbS0).toLoadRect f,
      View.readAt (Elt Ideal) arg14.view (Rect.unit (s := S8x2x256x256) offS1 S1x1x256x256.size inbS1).toLoadRect f⟩ (fun h => X.D b h (2 * t + k.val)) (S b) where
  q h i d := (rd3 arg2 harg2 x0 offA inbA _ _ _ hA 0 i (cl h d) b (row k i) (cl h d) rfl rfl (Nat.zero_add _).symm).trans
    ((B.q b (row k i) (cl h d)).trans (congrArg (fun r => X.q (ix3 b r (cl h d))) (tr_row t k i)))
  k h i d := (rd3 arg3 harg3 x1 offA inbA _ _ _ hA 0 i (cl h d) b (row k i) (cl h d) rfl rfl (Nat.zero_add _).symm).trans
    ((B.k b (row k i) (cl h d)).trans (congrArg (fun r => X.k (ix3 b r (cl h d))) (tr_row t k i)))
  kb h i d := (rd3 arg4 harg4 x2 offA inbA _ _ _ hA 0 i (cl h d) b (row k i) (cl h d) rfl rfl (Nat.zero_add _).symm).trans
    ((B.kb b (row k i) (cl h d)).trans (congrArg (fun r => X.kb (ix3 b r (cl h d))) (tr_row t k i)))
  vb h i d := (rd3 arg5 harg5 x3 offA inbA _ _ _ hA 0 i (cl h d) b (row k i) (cl h d) rfl rfl (Nat.zero_add _).symm).trans
    ((B.vb b (row k i) (cl h d)).trans (congrArg (fun r => X.vb (ix3 b r (cl h d))) (tr_row t k i)))
  kbe h i d := (rd3 arg6 harg6 x4 offA inbA _ _ _ hA 0 i (cl h d) b (row k i) (cl h d) rfl rfl (Nat.zero_add _).symm).trans
    ((B.kbe b (row k i) (cl h d)).trans (congrArg (fun r => X.kbe (ix3 b r (cl h d))) (tr_row t k i)))
  qg0 p i d := (rd3 arg7 harg7 x5 offP0 inbP0 _ _ _ hP0 0 i (pp p d) b (row k i) (cl (hd 0 p) d) rfl rfl (by show 128 * (2 * 0 + p.val) + d.val = 0 + (128 * p.val + d.val); omega)).trans
    ((B.qg b (row k i) (cl (hd 0 p) d)).trans (congrArg (fun r => X.qg (ix3 b r (cl (hd 0 p) d))) (tr_row t k i)))
  qg1 p i d := (rd3 arg7 harg7 x5 offP1 inbP1 _ _ _ hP1 0 i (pp p d) b (row k i) (cl (hd 1 p) d) rfl rfl (by show 128 * (2 * 1 + p.val) + d.val = 256 + (128 * p.val + d.val); omega)).trans
    ((B.qg b (row k i) (cl (hd 1 p) d)).trans (congrArg (fun r => X.qg (ix3 b r (cl (hd 1 p) d))) (tr_row t k i)))
  kg0 p i d := (rd3 arg8 harg8 x6 offP0 inbP0 _ _ _ hP0 0 i (pp p d) b (row k i) (cl (hd 0 p) d) rfl rfl (by show 128 * (2 * 0 + p.val) + d.val = 0 + (128 * p.val + d.val); omega)).trans
    ((B.kg b (row k i) (cl (hd 0 p) d)).trans (congrArg (fun r => X.kg (ix3 b r (cl (hd 0 p) d))) (tr_row t k i)))
  kg1 p i d := (rd3 arg8 harg8 x6 offP1 inbP1 _ _ _ hP1 0 i (pp p d) b (row k i) (cl (hd 1 p) d) rfl rfl (by show 128 * (2 * 1 + p.val) + d.val = 256 + (128 * p.val + d.val); omega)).trans
    ((B.kg b (row k i) (cl (hd 1 p) d)).trans (congrArg (fun r => X.kg (ix3 b r (cl (hd 1 p) d))) (tr_row t k i)))
  dec h i d := (rd3 arg10 harg10 x8 offD inbD _ _ _ hD 0 i (cs h d) b (row k i) (cs h d) rfl rfl (Nat.zero_add _).symm).trans
    ((B.dec b (row k i) (cs h d)).trans (congrArg (fun r => X.dec (ix3 b r (cs h d))) (tr_row t k i)))
  g h d := (rd4 arg11 (harg11.unread x9) offG inbG _ _ _ _ hG 0 0 0 (cl h d) b 0 ⟨k.val, k_lt k⟩ (cl h d) rfl rfl rfl (Nat.zero_add _).symm).trans
    ((congrFun (harg11.read_unread x9) _).trans (B.g b ⟨k.val, k_lt k⟩ (cl h d)))
  s0 p e p' d := (rd4 arg14 f offS0 inbS0 _ _ _ _ hS0 0 0 (pp p e) (pp p' d) b 0 (pp p e) (pp p' d) rfl rfl (Nat.zero_add _).symm (Nat.zero_add _).symm).trans
    ((hS _).trans (bs_at S b 0 p p' e d))
  s1 p e p' d := (rd4 arg14 f offS1 inbS1 _ _ _ _ hS1 0 0 (pp p e) (pp p' d) b 1 (pp p e) (pp p' d) rfl rfl (Nat.zero_add _).symm (Nat.zero_add _).symm).trans
    ((hS _).trans (bs_at S b 1 p p' e d))

theorem isld0 (k : Fin k0_t1_loop.trips) (f : arg14.view.ty.Contents (Elt Ideal)) (S : Fin 8 → Fin 4 → St)
    (hS : ∀ y, arg14.view.read (Elt Ideal) f y = BS S y) :
    IsLd (ld0 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 0 h (2 * t + k.val)) (S 0) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 0 k f S hS _ _ (off1_eq k) _ _ (off17_eq k) _ _ (off18_eq k) _ _ (off9_eq k) _ _ (off33_eq k) _ _ rfl _ _ rfl

theorem isld1 (k : Fin k0_t1_loop.trips) (f : arg14.view.ty.Contents (Elt Ideal)) (S : Fin 8 → Fin 4 → St)
    (hS : ∀ y, arg14.view.read (Elt Ideal) f y = BS S y) :
    IsLd (ld1 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 1 h (2 * t + k.val)) (S 1) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 1 k f S hS _ _ (off2_eq k) _ _ (off19_eq k) _ _ (off20_eq k) _ _ (off10_eq k) _ _ (off38_eq k) _ _ rfl _ _ rfl

theorem isld2 (k : Fin k0_t1_loop.trips) (f : arg14.view.ty.Contents (Elt Ideal)) (S : Fin 8 → Fin 4 → St)
    (hS : ∀ y, arg14.view.read (Elt Ideal) f y = BS S y) :
    IsLd (ld2 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 2 h (2 * t + k.val)) (S 2) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 2 k f S hS _ _ (off3_eq k) _ _ (off21_eq k) _ _ (off22_eq k) _ _ (off11_eq k) _ _ (off43_eq k) _ _ rfl _ _ rfl

theorem isld3 (k : Fin k0_t1_loop.trips) (f : arg14.view.ty.Contents (Elt Ideal)) (S : Fin 8 → Fin 4 → St)
    (hS : ∀ y, arg14.view.read (Elt Ideal) f y = BS S y) :
    IsLd (ld3 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 3 h (2 * t + k.val)) (S 3) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 3 k f S hS _ _ (off4_eq k) _ _ (off23_eq k) _ _ (off24_eq k) _ _ (off12_eq k) _ _ (off48_eq k) _ _ rfl _ _ rfl

theorem isld4 (k : Fin k0_t1_loop.trips) (f : arg14.view.ty.Contents (Elt Ideal)) (S : Fin 8 → Fin 4 → St)
    (hS : ∀ y, arg14.view.read (Elt Ideal) f y = BS S y) :
    IsLd (ld4 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 4 h (2 * t + k.val)) (S 4) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 4 k f S hS _ _ (off5_eq k) _ _ (off25_eq k) _ _ (off26_eq k) _ _ (off13_eq k) _ _ (off53_eq k) _ _ rfl _ _ rfl

theorem isld5 (k : Fin k0_t1_loop.trips) (f : arg14.view.ty.Contents (Elt Ideal)) (S : Fin 8 → Fin 4 → St)
    (hS : ∀ y, arg14.view.read (Elt Ideal) f y = BS S y) :
    IsLd (ld5 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 5 h (2 * t + k.val)) (S 5) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 5 k f S hS _ _ (off6_eq k) _ _ (off27_eq k) _ _ (off28_eq k) _ _ (off14_eq k) _ _ (off58_eq k) _ _ rfl _ _ rfl

theorem isld6 (k : Fin k0_t1_loop.trips) (f : arg14.view.ty.Contents (Elt Ideal)) (S : Fin 8 → Fin 4 → St)
    (hS : ∀ y, arg14.view.read (Elt Ideal) f y = BS S y) :
    IsLd (ld6 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 6 h (2 * t + k.val)) (S 6) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 6 k f S hS _ _ (off7_eq k) _ _ (off29_eq k) _ _ (off30_eq k) _ _ (off15_eq k) _ _ (off63_eq k) _ _ rfl _ _ rfl

theorem isld7 (k : Fin k0_t1_loop.trips) (f : arg14.view.ty.Contents (Elt Ideal)) (S : Fin 8 → Fin 4 → St)
    (hS : ∀ y, arg14.view.read (Elt Ideal) f y = BS S y) :
    IsLd (ld7 (F := Ideal) arg2 arg3 arg4 arg5 arg6 arg7 arg8 arg9 arg10 arg11 arg12 arg13 arg14 (harg2.unread x0) (harg3.unread x1) (harg4.unread x2) (harg5.unread x3) (harg6.unread x4) (harg7.unread x5) (harg8.unread x6) (harg9.unread x7) (harg10.unread x8) (harg11.unread x9) (harg12.unread x10) k f) (fun h => X.D 7 h (2 * t + k.val)) (S 7) :=
  isld_of X zs nw t arg2 harg2 arg3 harg3 arg4 harg4 arg5 harg5 arg6 harg6 arg7 harg7 arg8 harg8 arg10 harg10 arg11 harg11 arg14 x0 x1 x2 x3 x4 x5 x6 x7 x8 x9 x10 B 7 k f S hS _ _ (off8_eq k) _ _ (off31_eq k) _ _ (off32_eq k) _ _ (off16_eq k) _ _ (off68_eq k) _ _ rfl _ _ rfl

end Reads

end Cert.Gdn

end
-- ==== Proof.GdnPoint2.lean ====
/- The pieces the trips of a grid point leave. -/
module

public import proofs.«01_k».proof.Proof.GdnPoint
public import Idealize.ShloMosaic.Lib.Ring

@[expose] public section

set_option maxHeartbeats 40000000
set_option maxRecDepth 8192

noncomputable section

open Idealize.ShloMosaic Idealize.ShloMosaic.TcCoe Cert.Gdn Cert.KernelIdeal Cert.KernelIdeal.Gen

namespace Cert.Gdn

theorem piece_s (S : Fin 8 → Fin 4 → St) (b : Fin 8) (s : Fin 2) (off : Fin 4 → ℕ) (inb : ∀ a, off a + S1x1x256x256.size a ≤ S8x2x256x256.size a)
    (ho : off = ![b.val, s.val, 0, 0]) (N : Vec Ideal S1x1x256x256 .f32)
    (hN : ∀ p e p' d, N (ix4 0 0 (pp p e) (pp p' d)) = if p = p' then S b (hd s p') e d else 0) (x : S1x1x256x256.Idx) :
    N x = BS S ((Rect.unit (s := S8x2x256x256) off S1x1x256x256.size inb).emb x) := by
  subst ho
  obtain ⟨p, e, h2⟩ := pp_split (x 2)
  obtain ⟨p', d, h3⟩ := pp_split (x 3)
  have hx : x = ix4 (0 : Fin 1) (0 : Fin 1) (pp p e) (pp p' d) := funext fun j => by
    fin_cases j
    exacts [Subsingleton.elim (α := Fin 1) _ _, Subsingleton.elim (α := Fin 1) _ _, h2, h3]
  subst hx
  rw [hN, ← bs_at]
  refine congrArg (BS S) (funext fun j => Fin.ext ?_)
  fin_cases j
  · show b.val = b.val + 1 * 0; omega
  · show s.val = s.val + 1 * 0; omega
  · show (pp p e).val = 0 + 1 * (pp p e).val; omega
  · show (pp p' d).val = 0 + 1 * (pp p' d).val; omega

/-- The output block of point `t`. -/
def OB (X : Arrs) (zs : A512) (nw : FVec Ideal ⟨1, ![128]⟩ .f32) (t : ℕ) (y : S8x128x512.Idx) : EReal :=
  X.out zs nw (y 0) (tr t (y 1)) (y 2)

theorem out_row (X : Arrs) (zs : A512) (nw : FVec Ideal ⟨1, ![128]⟩ .f32) (t : ℕ) (ht : t < 64) (b : Fin 8) (k : Fin k0_t1_loop.trips) (i : Fin 64)
    (h : Fin 4) (d : Fin 128) :
    X.out zs nw b (tr t (row k i)) (cl h d) = norm ((X.D b h (2 * t + k.val)).o (X.S b h (2 * t + k.val)) i) d (nw (ix1 d))
      (zs (ix3 b (tr t (row k i)) (cl h d))) := by
  have hk := k_lt k
  have e : (tr t (row k i)).val = 64 * (2 * t + k.val) + i.val := by
    show (128 * t + (64 * k.val + i.val)) % 8192 = _
    omega
  have e1 : (tr t (row k i)).val / 64 = 2 * t + k.val := by rw [e]; omega
  have e2 : (⟨(tr t (row k i)).val % 64, Nat.mod_lt _ (by norm_num)⟩ : Fin 64) = i := Fin.ext (by
    show (tr t (row k i)).val % 64 = i.val
    rw [e]; omega)
  have c : (cl h d).val = 128 * h.val + d.val := rfl
  have c1 : (⟨(cl h d).val / 128, by omega⟩ : Fin 4) = h := Fin.ext (by
    show (cl h d).val / 128 = h.val
    rw [c]; omega)
  have c2 : (⟨(cl h d).val % 128, Nat.mod_lt _ (by norm_num)⟩ : Fin 128) = d := Fin.ext (by
    show (cl h d).val % 128 = d.val
    rw [c]; omega)
  unfold Arrs.out
  rw [c1, c2, e1, e2]

theorem piece_o (X : Arrs) (zs : A512) (nw : FVec Ideal ⟨1, ![128]⟩ .f32) (t : ℕ) (ht : t < 64) (b : Fin 8) (h : Fin 4) (k : Fin k0_t1_loop.trips)
    (off : Fin 3 → ℕ) (inb : ∀ a, off a + S1x64x128.size a ≤ S8x128x512.size a)
    (ho : off = ![b.val, 64 * k.val, 128 * h.val]) (oh : FVec Ideal S64x128 .f32) (nv : Vec Ideal S1x128 .f32) (zv : Vec Ideal S1x64x128 .bf16)
    (hoh : ∀ i d, oh (ix2 i d) = (X.D b h (2 * t + k.val)).o (X.S b h (2 * t + k.val)) i d)
    (hnv : ∀ d, nv (ix2 0 d) = nw (ix1 d)) (hzv : ∀ i d, zv (ix3 0 i d) = zs (ix3 b (tr t (row k i)) (cl h d))) (x : S1x64x128.Idx) :
    NO (F := Ideal) oh nv zv x = OB X zs nw t ((Rect.unit (s := S8x128x512) off S1x64x128.size inb).emb x) := by
  subst ho
  obtain ⟨i, hi⟩ : ∃ i : Fin 64, x 1 = i := ⟨_, rfl⟩
  obtain ⟨d, hd⟩ : ∃ d : Fin 128, x 2 = d := ⟨_, rfl⟩
  have hx : x = ix3 (0 : Fin 1) i d := funext fun j => by
    fin_cases j
    exacts [Subsingleton.elim (α := Fin 1) _ _, hi, hd]
  subst hx
  have he : (Rect.unit (s := S8x128x512) ![b.val, 64 * k.val, 128 * h.val] S1x64x128.size inb).emb (ix3 0 i d) = ix3 b (row k i) (cl h d) := by
    refine funext fun j => Fin.ext ?_
    fin_cases j
    · show b.val + 1 * 0 = b.val; omega
    · show 64 * k.val + 1 * i.val = 64 * k.val + i.val; omega
    · show 128 * h.val + 1 * d.val = 128 * h.val + d.val; omega
  rw [he, no_at, hnv, hzv, funext (hoh i)]
  exact (out_row X zs nw t ht b k i h d).symm

theorem sl0 (v : FVec Ideal S64x512 .f32) (i : Fin 64) (d : Fin 128) :
    extractStridedSlice S64x128 ![0, 0] v slices_S64x512_o0_0_S64x128 (ix2 i d) = v (ix2 i (cl 0 d)) := by
  pointwise
  exact congrArg (fun z => v (ix2 i z)) (Fin.ext (by show d.val = 128 * 0 + d.val; omega))

theorem sl1 (v : FVec Ideal S64x512 .f32) (i : Fin 64) (d : Fin 128) :
    extractStridedSlice S64x128 ![0, 128] v slices_S64x512_o0_128_S64x128 (ix2 i d) = v (ix2 i (cl 1 d)) := by
  pointwise
  exact congrArg (fun z => v (ix2 i z)) (Fin.ext (by show 128 + d.val = 128 * 1 + d.val; omega))

theorem sl2 (v : FVec Ideal S64x512 .f32) (i : Fin 64) (d : Fin 128) :
    extractStridedSlice S64x128 ![0, 256] v slices_S64x512_o0_256_S64x128 (ix2 i d) = v (ix2 i (cl 2 d)) := by
  pointwise
  exact congrArg (fun z => v (ix2 i z)) (Fin.ext (by show 256 + d.val = 128 * 2 + d.val; omega))

theorem sl3 (v : FVec Ideal S64x512 .f32) (i : Fin 64) (d : Fin 128) :
    extractStridedSlice S64x128 ![0, 384] v slices_S64x512_o0_384_S64x128 (ix2 i d) = v (ix2 i (cl 3 d)) := by
  pointwise
  exact congrArg (fun z => v (ix2 i z)) (Fin.ext (by show 384 + d.val = 128 * 3 + d.val; omega))

section Trips

variable (X : Arrs) (zs : A512) (nw : FVec Ideal ⟨1, ![128]⟩ .f32) (t : ℕ)
    (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole)
    (x0 x1 x2 x3 x4 x5 x6 x7 : Vec Ideal S8x128x512 .bf16) (x8 : Vec Ideal S8x128x256 .f32)
    (x9 : Vec Ideal S8x1x2x512 .f32) (x10 : Vec Ideal S1x128 .f32)
    (B : Blk X zs nw t x0 x1 x2 x3 x4 x5 x6 x7 x8 x9 x10)
  (v21 v22 : IVec S64x256 1) (v77 : FVec Ideal S256x256 .bf16) (v132 : FVec Ideal S256x512 .bf16) (v157 v182 : IVec S256x256 32) (M : Masks v21 v22 v77 v132 (cmpi .eq v157 v182)) (ht : t < 64)
  (c : Dev nD) (i : grid0.Coords)
include B M

theorem trip_state (k : Fin k0_t1_loop.trips) (f13 : arg13.view.ty.Contents (Elt Ideal))
    (f : arg14.view.ty.Contents (Elt Ideal)) (hS : ∀ y, arg14.view.read (Elt Ideal) f y = BS (fun b h => X.S b h (2 * t + k.val)) y) :
    (∀ pc ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) k f13 f).2, ∀ x, pc.2 x = BS (fun b h => X.S b h (2 * t + k.val + 1)) (pc.1.emb x))
      ∧ ∀ y, ∃ pc ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) k f13 f).2, y ∈ pc.1.set := by
  rw [trip_s]
  refine ⟨?_, fun y => View.cover_of_tiledL (s := S8x2x256x256) _ S1x1x256x256.size (by sl_kernel_rfl) y⟩
  refine List.forall_mem_cons.mpr ⟨piece_s _ 7 1 ![7, 1, 0, 0] inb_S8x2x256x256_S1x1x256x256_7_1_0_0 rfl _ (n1_at M (isld7 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 7 0 ![7, 0, 0, 0] inb_S8x2x256x256_S1x1x256x256_7_0_0_0 rfl _ (n0_at M (isld7 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 6 1 ![6, 1, 0, 0] inb_S8x2x256x256_S1x1x256x256_6_1_0_0 rfl _ (n1_at M (isld6 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 6 0 ![6, 0, 0, 0] inb_S8x2x256x256_S1x1x256x256_6_0_0_0 rfl _ (n0_at M (isld6 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 5 1 ![5, 1, 0, 0] inb_S8x2x256x256_S1x1x256x256_5_1_0_0 rfl _ (n1_at M (isld5 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 5 0 ![5, 0, 0, 0] inb_S8x2x256x256_S1x1x256x256_5_0_0_0 rfl _ (n0_at M (isld5 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 4 1 ![4, 1, 0, 0] inb_S8x2x256x256_S1x1x256x256_4_1_0_0 rfl _ (n1_at M (isld4 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 4 0 ![4, 0, 0, 0] inb_S8x2x256x256_S1x1x256x256_4_0_0_0 rfl _ (n0_at M (isld4 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 3 1 ![3, 1, 0, 0] inb_S8x2x256x256_S1x1x256x256_3_1_0_0 rfl _ (n1_at M (isld3 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 3 0 ![3, 0, 0, 0] inb_S8x2x256x256_S1x1x256x256_3_0_0_0 rfl _ (n0_at M (isld3 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 2 1 ![2, 1, 0, 0] inb_S8x2x256x256_S1x1x256x256_2_1_0_0 rfl _ (n1_at M (isld2 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 2 0 ![2, 0, 0, 0] inb_S8x2x256x256_S1x1x256x256_2_0_0_0 rfl _ (n0_at M (isld2 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 1 1 ![1, 1, 0, 0] inb_S8x2x256x256_S1x1x256x256_1_1_0_0 rfl _ (n1_at M (isld1 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 1 0 ![1, 0, 0, 0] inb_S8x2x256x256_S1x1x256x256_1_0_0_0 rfl _ (n0_at M (isld1 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 0 1 ![0, 1, 0, 0] inb_S8x2x256x256_S1x1x256x256_0_1_0_0 rfl _ (n1_at M (isld0 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  refine List.forall_mem_cons.mpr ⟨piece_s _ 0 0 ![0, 0, 0, 0] inb_S8x2x256x256_S1x1x256x256_0_0_0_0 rfl _ (n0_at M (isld0 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS)), ?_⟩
  exact List.forall_mem_nil _

include ht in
theorem trip_out (k : Fin k0_t1_loop.trips) (f13 : arg13.view.ty.Contents (Elt Ideal))
    (f : arg14.view.ty.Contents (Elt Ideal)) (hS : ∀ y, arg14.view.read (Elt Ideal) f y = BS (fun b h => X.S b h (2 * t + k.val)) y) :
    ∀ pc ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) k f13 f).1, ∀ x, pc.2 x = OB X zs nw t (pc.1.emb x) := by
  rw [trip_o]
  have hnv : ∀ d, View.readAt (Elt Ideal) arg12.view (Rect.unit (s := S1x128) ![0, 0] S1x128.size inb_S1x128_S1x128_0_0).toLoadRect (harg12.unread x10) (ix2 0 d) = nw (ix1 d) :=
    fun d => (rd2 arg12 harg12 x10 inb_S1x128_S1x128_0_0 0 d 0 d rfl rfl).trans (B.nw d)
  refine List.forall_mem_cons.mpr ⟨piece_o X zs nw t ht 7 3 k _ (k0_off72_inb k) (off72_eq k) _ _ _ (fun i d => (sl3 _ i d).trans (o_at M (isld7 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off72_inb k) _ _ _ (off72_eq k) 0 i d 7 (row k i) (cl 3 d) rfl rfl rfl).trans (B.zs _ _ _)), ?_⟩
  refine List.forall_mem_cons.mpr ⟨piece_o X zs nw t ht 7 2 k _ (k0_off71_inb k) (off71_eq k) _ _ _ (fun i d => (sl2 _ i d).trans (o_at M (isld7 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off71_inb k) _ _ _ (off71_eq k) 0 i d 7 (row k i) (cl 2 d) rfl rfl rfl).trans (B.zs _ _ _)), ?_⟩
  refine List.forall_mem_cons.mpr ⟨piece_o X zs nw t ht 7 1 k _ (k0_off70_inb k) (off70_eq k) _ _ _ (fun i d => (sl1 _ i d).trans (o_at M (isld7 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off70_inb k) _ _ _ (off70_eq k) 0 i d 7 (row k i) (cl 1 d) rfl rfl rfl).trans (B.zs _ _ _)), ?_⟩
  refine List.forall_mem_cons.mpr ⟨piece_o X zs nw t ht 7 0 k _ (k0_off69_inb k) (off69_eq k) _ _ _ (fun i d => (sl0 _ i d).trans (o_at M (isld7 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off69_inb k) _ _ _ (off69_eq k) 0 i d 7 (row k i) (cl 0 d) rfl rfl rfl).trans (B.zs _ _ _)), ?_⟩
  refine List.forall_mem_cons.mpr ⟨piece_o X zs nw t ht 6 3 k _ (k0_off67_inb k) (off67_eq k) _ _ _ (fun i d => (sl3 _ i d).trans (o_at M (isld6 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off67_inb k) _ _ _ (off67_eq k) 0 i d 6 (row k i) (cl 3 d) rfl rfl rfl).trans (B.zs _ _ _)), ?_⟩
  refine List.forall_mem_cons.mpr ⟨piece_o X zs nw t ht 6 2 k _ (k0_off66_inb k) (off66_eq k) _ _ _ (fun i d => (sl2 _ i d).trans (o_at M (isld6 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off66_inb k) _ _ _ (off66_eq k) 0 i d 6 (row k i) (cl 2 d) rfl rfl rfl).trans (B.zs _ _ _)), ?_⟩
  refine List.forall_mem_cons.mpr ⟨piece_o X zs nw t ht 6 1 k _ (k0_off65_inb k) (off65_eq k) _ _ _ (fun i d => (sl1 _ i d).trans (o_at M (isld6 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off65_inb k) _ _ _ (off65_eq k) 0 i d 6 (row k i) (cl 1 d) rfl rfl rfl).trans (B.zs _ _ _)), ?_⟩
  refine List.forall_mem_cons.mpr ⟨piece_o X zs nw t ht 6 0 k _ (k0_off64_inb k) (off64_eq k) _ _ _ (fun i d => (sl0 _ i d).trans (o_at M (isld6 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off64_inb k) _ _ _ (off64_eq k) 0 i d 6 (row k i) (cl 0 d) rfl rfl rfl).trans (B.zs _ _ _)), ?_⟩
  refine List.forall_mem_cons.mpr ⟨piece_o X zs nw t ht 5 3 k _ (k0_off62_inb k) (off62_eq k) _ _ _ (fun i d => (sl3 _ i d).trans (o_at M (isld5 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off62_inb k) _ _ _ (off62_eq k) 0 i d 5 (row k i) (cl 3 d) rfl rfl rfl).trans (B.zs _ _ _)), ?_⟩
  refine List.forall_mem_cons.mpr ⟨piece_o X zs nw t ht 5 2 k _ (k0_off61_inb k) (off61_eq k) _ _ _ (fun i d => (sl2 _ i d).trans (o_at M (isld5 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off61_inb k) _ _ _ (off61_eq k) 0 i d 5 (row k i) (cl 2 d) rfl rfl rfl).trans (B.zs _ _ _)), ?_⟩
  refine List.forall_mem_cons.mpr ⟨piece_o X zs nw t ht 5 1 k _ (k0_off60_inb k) (off60_eq k) _ _ _ (fun i d => (sl1 _ i d).trans (o_at M (isld5 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off60_inb k) _ _ _ (off60_eq k) 0 i d 5 (row k i) (cl 1 d) rfl rfl rfl).trans (B.zs _ _ _)), ?_⟩
  refine List.forall_mem_cons.mpr ⟨piece_o X zs nw t ht 5 0 k _ (k0_off59_inb k) (off59_eq k) _ _ _ (fun i d => (sl0 _ i d).trans (o_at M (isld5 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off59_inb k) _ _ _ (off59_eq k) 0 i d 5 (row k i) (cl 0 d) rfl rfl rfl).trans (B.zs _ _ _)), ?_⟩
  refine List.forall_mem_cons.mpr ⟨piece_o X zs nw t ht 4 3 k _ (k0_off57_inb k) (off57_eq k) _ _ _ (fun i d => (sl3 _ i d).trans (o_at M (isld4 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off57_inb k) _ _ _ (off57_eq k) 0 i d 4 (row k i) (cl 3 d) rfl rfl rfl).trans (B.zs _ _ _)), ?_⟩
  refine List.forall_mem_cons.mpr ⟨piece_o X zs nw t ht 4 2 k _ (k0_off56_inb k) (off56_eq k) _ _ _ (fun i d => (sl2 _ i d).trans (o_at M (isld4 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off56_inb k) _ _ _ (off56_eq k) 0 i d 4 (row k i) (cl 2 d) rfl rfl rfl).trans (B.zs _ _ _)), ?_⟩
  refine List.forall_mem_cons.mpr ⟨piece_o X zs nw t ht 4 1 k _ (k0_off55_inb k) (off55_eq k) _ _ _ (fun i d => (sl1 _ i d).trans (o_at M (isld4 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off55_inb k) _ _ _ (off55_eq k) 0 i d 4 (row k i) (cl 1 d) rfl rfl rfl).trans (B.zs _ _ _)), ?_⟩
  refine List.forall_mem_cons.mpr ⟨piece_o X zs nw t ht 4 0 k _ (k0_off54_inb k) (off54_eq k) _ _ _ (fun i d => (sl0 _ i d).trans (o_at M (isld4 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off54_inb k) _ _ _ (off54_eq k) 0 i d 4 (row k i) (cl 0 d) rfl rfl rfl).trans (B.zs _ _ _)), ?_⟩
  refine List.forall_mem_cons.mpr ⟨piece_o X zs nw t ht 3 3 k _ (k0_off52_inb k) (off52_eq k) _ _ _ (fun i d => (sl3 _ i d).trans (o_at M (isld3 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off52_inb k) _ _ _ (off52_eq k) 0 i d 3 (row k i) (cl 3 d) rfl rfl rfl).trans (B.zs _ _ _)), ?_⟩
  refine List.forall_mem_cons.mpr ⟨piece_o X zs nw t ht 3 2 k _ (k0_off51_inb k) (off51_eq k) _ _ _ (fun i d => (sl2 _ i d).trans (o_at M (isld3 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off51_inb k) _ _ _ (off51_eq k) 0 i d 3 (row k i) (cl 2 d) rfl rfl rfl).trans (B.zs _ _ _)), ?_⟩
  refine List.forall_mem_cons.mpr ⟨piece_o X zs nw t ht 3 1 k _ (k0_off50_inb k) (off50_eq k) _ _ _ (fun i d => (sl1 _ i d).trans (o_at M (isld3 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off50_inb k) _ _ _ (off50_eq k) 0 i d 3 (row k i) (cl 1 d) rfl rfl rfl).trans (B.zs _ _ _)), ?_⟩
  refine List.forall_mem_cons.mpr ⟨piece_o X zs nw t ht 3 0 k _ (k0_off49_inb k) (off49_eq k) _ _ _ (fun i d => (sl0 _ i d).trans (o_at M (isld3 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off49_inb k) _ _ _ (off49_eq k) 0 i d 3 (row k i) (cl 0 d) rfl rfl rfl).trans (B.zs _ _ _)), ?_⟩
  refine List.forall_mem_cons.mpr ⟨piece_o X zs nw t ht 2 3 k _ (k0_off47_inb k) (off47_eq k) _ _ _ (fun i d => (sl3 _ i d).trans (o_at M (isld2 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off47_inb k) _ _ _ (off47_eq k) 0 i d 2 (row k i) (cl 3 d) rfl rfl rfl).trans (B.zs _ _ _)), ?_⟩
  refine List.forall_mem_cons.mpr ⟨piece_o X zs nw t ht 2 2 k _ (k0_off46_inb k) (off46_eq k) _ _ _ (fun i d => (sl2 _ i d).trans (o_at M (isld2 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off46_inb k) _ _ _ (off46_eq k) 0 i d 2 (row k i) (cl 2 d) rfl rfl rfl).trans (B.zs _ _ _)), ?_⟩
  refine List.forall_mem_cons.mpr ⟨piece_o X zs nw t ht 2 1 k _ (k0_off45_inb k) (off45_eq k) _ _ _ (fun i d => (sl1 _ i d).trans (o_at M (isld2 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off45_inb k) _ _ _ (off45_eq k) 0 i d 2 (row k i) (cl 1 d) rfl rfl rfl).trans (B.zs _ _ _)), ?_⟩
  refine List.forall_mem_cons.mpr ⟨piece_o X zs nw t ht 2 0 k _ (k0_off44_inb k) (off44_eq k) _ _ _ (fun i d => (sl0 _ i d).trans (o_at M (isld2 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off44_inb k) _ _ _ (off44_eq k) 0 i d 2 (row k i) (cl 0 d) rfl rfl rfl).trans (B.zs _ _ _)), ?_⟩
  refine List.forall_mem_cons.mpr ⟨piece_o X zs nw t ht 1 3 k _ (k0_off42_inb k) (off42_eq k) _ _ _ (fun i d => (sl3 _ i d).trans (o_at M (isld1 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off42_inb k) _ _ _ (off42_eq k) 0 i d 1 (row k i) (cl 3 d) rfl rfl rfl).trans (B.zs _ _ _)), ?_⟩
  refine List.forall_mem_cons.mpr ⟨piece_o X zs nw t ht 1 2 k _ (k0_off41_inb k) (off41_eq k) _ _ _ (fun i d => (sl2 _ i d).trans (o_at M (isld1 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off41_inb k) _ _ _ (off41_eq k) 0 i d 1 (row k i) (cl 2 d) rfl rfl rfl).trans (B.zs _ _ _)), ?_⟩
  refine List.forall_mem_cons.mpr ⟨piece_o X zs nw t ht 1 1 k _ (k0_off40_inb k) (off40_eq k) _ _ _ (fun i d => (sl1 _ i d).trans (o_at M (isld1 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off40_inb k) _ _ _ (off40_eq k) 0 i d 1 (row k i) (cl 1 d) rfl rfl rfl).trans (B.zs _ _ _)), ?_⟩
  refine List.forall_mem_cons.mpr ⟨piece_o X zs nw t ht 1 0 k _ (k0_off39_inb k) (off39_eq k) _ _ _ (fun i d => (sl0 _ i d).trans (o_at M (isld1 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off39_inb k) _ _ _ (off39_eq k) 0 i d 1 (row k i) (cl 0 d) rfl rfl rfl).trans (B.zs _ _ _)), ?_⟩
  refine List.forall_mem_cons.mpr ⟨piece_o X zs nw t ht 0 3 k _ (k0_off37_inb k) (off37_eq k) _ _ _ (fun i d => (sl3 _ i d).trans (o_at M (isld0 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 3 d)) hnv
    (fun i d => (rd3 arg9 harg9 x7 _ (k0_off37_inb k) _ _ _ (off37_eq k) 0 i d 0 (row k i) (cl 3 d) rfl rfl rfl).trans (B.zs _ _ _)), ?_⟩
  refine List.forall_mem_cons.mpr ⟨piece_o X zs nw t ht 0 2 k _ (k0_off36_inb k) (off36_eq k) _ _ _ (fun i d => (sl2 _ i d).trans (o_at M (isld0 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 2 d)) hnv
    (fun i d => (rd3 arg9 harg9 x7 _ (k0_off36_inb k) _ _ _ (off36_eq k) 0 i d 0 (row k i) (cl 2 d) rfl rfl rfl).trans (B.zs _ _ _)), ?_⟩
  refine List.forall_mem_cons.mpr ⟨piece_o X zs nw t ht 0 1 k _ (k0_off35_inb k) (off35_eq k) _ _ _ (fun i d => (sl1 _ i d).trans (o_at M (isld0 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 1 d)) hnv
    (fun i d => (rd3 arg9 harg9 x7 _ (k0_off35_inb k) _ _ _ (off35_eq k) 0 i d 0 (row k i) (cl 1 d) rfl rfl rfl).trans (B.zs _ _ _)), ?_⟩
  refine List.forall_mem_cons.mpr ⟨piece_o X zs nw t ht 0 0 k _ (k0_off34_inb k) (off34_eq k) _ _ _ (fun i d => (sl0 _ i d).trans (o_at M (isld0 X zs nw t arg2 harg2 arg3 harg3 arg4 harg4 arg5 harg5 arg6 harg6 arg7 harg7 arg8 harg8 arg9 harg9 arg10 harg10 arg11 harg11 arg12 harg12 arg13 arg14 x0 x1 x2 x3 x4 x5 x6 x7 x8 x9 x10 B k f (fun b h => X.S b h (2 * t + k.val)) hS) i 0 d)) hnv
    (fun i d => (rd3 arg9 harg9 x7 _ (k0_off34_inb k) _ _ _ (off34_eq k) 0 i d 0 (row k i) (cl 0 d) rfl rfl rfl).trans (B.zs _ _ _)), ?_⟩
  exact List.forall_mem_nil _

end Trips

end Cert.Gdn

end
-- ==== Proof.GdnPoint3.lean ====
/- The pieces the two trips of a grid point leave. -/
module

public import proofs.«01_k».proof.Proof.GdnPoint2

@[expose] public section

set_option maxHeartbeats 4000000
set_option maxRecDepth 8192

noncomputable section

open Idealize.ShloMosaic Idealize.ShloMosaic.TcCoe Cert.Gdn Cert.KernelIdeal Cert.KernelIdeal.Gen

namespace Cert.Gdn

theorem point (X : Arrs) (zs : A512) (nw : FVec Ideal ⟨1, ![128]⟩ .f32) (t : ℕ)
    (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole)
    (x0 x1 x2 x3 x4 x5 x6 x7 : Vec Ideal S8x128x512 .bf16) (x8 : Vec Ideal S8x128x256 .f32)
    (x9 : Vec Ideal S8x1x2x512 .f32) (x10 : Vec Ideal S1x128 .f32)
    (B : Blk X zs nw t x0 x1 x2 x3 x4 x5 x6 x7 x8 x9 x10)
  (v21 v22 : IVec S64x256 1) (v77 : FVec Ideal S256x256 .bf16) (v132 : FVec Ideal S256x512 .bf16) (v157 v182 : IVec S256x256 32) (M : Masks v21 v22 v77 v132 (cmpi .eq v157 v182)) (ht : t < 64)
  (c : Dev nD) (i : grid0.Coords) (g13 : arg13.view.ty.Contents (Elt Ideal)) (g14 : arg14.view.ty.Contents (Elt Ideal))
    (hS : ∀ y, arg14.view.read (Elt Ideal) g14 y = BS (fun b h => X.S b h (2 * t)) y) :
    (∀ pc ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 2).1, ∀ x, pc.2 x = OB X zs nw t (pc.1.emb x))
      ∧ ∃ L L' : List (View.Piece (Elt Ideal) S8x2x256x256 .f32), (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 2).2 = L ++ L'
        ∧ (∀ pc ∈ L, ∀ x, pc.2 x = BS (fun b h => X.S b h (2 * t + 2)) (pc.1.emb x)) ∧ ∀ y, ∃ pc ∈ L, y ∈ pc.1.set := by
  have e1 := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 (⟨0, by decide⟩ : Fin k0_t1_loop.trips)
  have e2 := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 (⟨1, by decide⟩ : Fin k0_t1_loop.trips)
  have o1 := trip_out X zs nw t arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 B v21 v22 v77 v132 v157 v182 M ht c i (⟨0, by decide⟩ : Fin k0_t1_loop.trips) g13 g14 hS
  obtain ⟨s1, c1⟩ := trip_state X zs nw t arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 B v21 v22 v77 v132 v157 v182 M c i (⟨0, by decide⟩ : Fin k0_t1_loop.trips) g13 g14 hS
  have hS1 : ∀ y, arg14.view.read (Elt Ideal) (arg14.view.writes (Elt Ideal) g14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 1).2) y = BS (fun b h => X.S b h (2 * t + 1)) y := by
    intro y
    rw [show (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 1) = _ from e1]
    refine View.read_writes_apply_of_pieces (Val := Elt Ideal) arg14.view _ (BS (fun b h => X.S b h (2 * t + 1))) _ ?_ y ?_
    · intro pc hpc
      rcases List.mem_append.mp hpc with h | h
      · exact s1 pc h
      · exact absurd h List.not_mem_nil
    · obtain ⟨pc, hpc, hy⟩ := c1 y
      exact ⟨pc, List.mem_append_left _ hpc, hy⟩
  have o2 := trip_out X zs nw t arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 B v21 v22 v77 v132 v157 v182 M ht c i (⟨1, by decide⟩ : Fin k0_t1_loop.trips) (arg13.view.writes (Elt Ideal) g13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 1).1) (arg14.view.writes (Elt Ideal) g14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 1).2) hS1
  obtain ⟨s2, c2⟩ := trip_state X zs nw t arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 B v21 v22 v77 v132 v157 v182 M c i (⟨1, by decide⟩ : Fin k0_t1_loop.trips) (arg13.view.writes (Elt Ideal) g13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 1).1) (arg14.view.writes (Elt Ideal) g14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 v21 v22 v77 v132 v157 v182 (harg2.unread x0) (harg3.unread x1) (harg4.unread x2) (harg5.unread x3) (harg6.unread x4) (harg7.unread x5) (harg8.unread x6) (harg9.unread x7) (harg10.unread x8) (harg11.unread x9) (harg12.unread x10) g13 g14 1).2) hS1
  refine ⟨?_, _, _, congrArg Prod.snd e2, s2, c2⟩
  intro pc hpc
  have hpc' := (congrArg Prod.fst e2) ▸ hpc
  rcases List.mem_append.mp hpc' with h | h
  · exact o2 pc h
  · have h1 := (congrArg Prod.fst e1) ▸ h
    rcases List.mem_append.mp h1 with h | h
    · exact o1 pc h
    · exact absurd h List.not_mem_nil

end Cert.Gdn

end
-- ==== Proof.GdnFinal.lean ====
/- What the kernel leaves: the layer's output, point after point. -/
module

public import proofs.«01_k».proof.Proof.KernelIdealFrame
public import proofs.«01_k».proof.Proof.GdnRun
public import proofs.«01_k».proof.Proof.GdnPoint3
public import Idealize.ShloMosaic.Lib.Pipeline.Value
public import Idealize.ShloMosaic.Lib.Pipeline.ValueKit
public import Idealize.ShloMosaic.Lib.Pointwise
public import Idealize.ShloMosaic.Lib.StableHlo.Run

@[expose] public section

set_option maxHeartbeats 4000000
set_option maxRecDepth 16384

noncomputable section

open Idealize.ShloMosaic Idealize.ShloMosaic.TcCoe Idealize.SL.Sem Cert.Gdn Cert.KernelIdeal Cert.KernelIdeal.Gen
open Idealize.ShloMosaic.Pipeline (Dat)

namespace Cert.Gdn

theorem out_B (X : Arrs) (zs : A512) (nw : FVec Ideal ⟨1, ![128]⟩ .f32) (t : ℕ) (ht : t < 64) (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : ¬cond0_0 i)
        (x0 : Vec Ideal S8x128x512 .bf16) (x1 : Vec Ideal S8x128x512 .bf16) (x2 : Vec Ideal S8x128x512 .bf16) (x3 : Vec Ideal S8x128x512 .bf16) (x4 : Vec Ideal S8x128x512 .bf16) (x5 : Vec Ideal S8x128x512 .bf16) (x6 : Vec Ideal S8x128x512 .bf16) (x7 : Vec Ideal S8x128x512 .bf16) (x8 : Vec Ideal S8x128x256 .f32) (x9 : Vec Ideal S8x1x2x512 .f32) (x10 : Vec Ideal S1x128 .f32) (xs0 : Vec Ideal S8x2x256x256 .f32)
    (B : Blk X zs nw t x0 x1 x2 x3 x4 x5 x6 x7 x8 x9 x10)
    (hS : ∀ y, xs0 y = BS (fun b h => X.S b h (2 * t)) y) :
    (∀ y, out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 y = OB X zs nw t y)
      ∧ ∀ y, sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 y = BS (fun b h => X.S b h (2 * t + 2)) y := by
  obtain ⟨v21, v22, v77, v132, v157, v182, M, e1, e2⟩ := run_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0
  obtain ⟨ho, L, L', eL, hs, hc⟩ := point X zs nw t arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 B v21 v22 v77 v132 v157 v182 M ht c i arg13.view.junk (harg14.unread xs0) (fun y => (congrFun (harg14.read_unread xs0) y).trans (hS y))
  constructor
  · intro y
    unfold out0_B_11
    exact View.read_writes_apply_of_pieces (Val := Elt Ideal) VO0_11 _ (OB X zs nw t) _ (fun pc h => ho pc (e1 ▸ h)) y (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 y)
  · intro y
    unfold sout0_B_0
    rw [e2, eL]
    rw [View.writes_append]
    exact View.read_writes_apply_of_pieces (Val := Elt Ideal) VS0_0 _ (BS (fun b h => X.S b h (2 * t + 2))) _ hs y (hc y)

theorem out_A (X : Arrs) (zs : A512) (nw : FVec Ideal ⟨1, ![128]⟩ .f32) (t : ℕ) (ht : t < 64) (c : Dev nD) (i : grid0.Coords) (arg2 : Memref sig .tc .vmem S8x128x512 .bf16) (harg2 : arg2.IsWhole) (arg3 : Memref sig .tc .vmem S8x128x512 .bf16) (harg3 : arg3.IsWhole) (arg4 : Memref sig .tc .vmem S8x128x512 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S8x128x512 .bf16) (harg8 : arg8.IsWhole) (arg9 : Memref sig .tc .vmem S8x128x512 .bf16) (harg9 : arg9.IsWhole) (arg10 : Memref sig .tc .vmem S8x128x256 .f32) (harg10 : arg10.IsWhole) (arg11 : Memref sig .tc .vmem S8x1x2x512 .f32) (harg11 : arg11.IsWhole) (arg12 : Memref sig .tc .vmem S1x128 .f32) (harg12 : arg12.IsWhole) (arg13 : Memref sig .tc .vmem S8x128x512 .bf16) (harg13 : arg13.IsWhole) (arg14 : Memref sig .tc .vmem S8x2x256x256 .f32) (harg14 : arg14.IsWhole) (hc0 : cond0_0 i)
        (x0 : Vec Ideal S8x128x512 .bf16) (x1 : Vec Ideal S8x128x512 .bf16) (x2 : Vec Ideal S8x128x512 .bf16) (x3 : Vec Ideal S8x128x512 .bf16) (x4 : Vec Ideal S8x128x512 .bf16) (x5 : Vec Ideal S8x128x512 .bf16) (x6 : Vec Ideal S8x128x512 .bf16) (x7 : Vec Ideal S8x128x512 .bf16) (x8 : Vec Ideal S8x128x256 .f32) (x9 : Vec Ideal S8x1x2x512 .f32) (x10 : Vec Ideal S1x128 .f32)
    (B : Blk X zs nw t x0 x1 x2 x3 x4 x5 x6 x7 x8 x9 x10)
    (hS : ∀ y, 0 = BS (fun b h => X.S b h (2 * t)) y) :
    (∀ y, out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 y = OB X zs nw t y)
      ∧ ∀ y, sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 y = BS (fun b h => X.S b h (2 * t + 2)) y := by
  obtain ⟨v21, v22, v77, v132, v157, v182, L0, g, M, hg, e1, e2⟩ := run_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
  obtain ⟨ho, L, L', eL, hs, hc⟩ := point X zs nw t arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 B v21 v22 v77 v132 v157 v182 M ht c i arg13.view.junk g (fun y => (hg y).trans (hS y))
  constructor
  · intro y
    unfold out0_A_11
    exact View.read_writes_apply_of_pieces (Val := Elt Ideal) VO0_11 _ (OB X zs nw t) _ (fun pc h => ho pc (e1 ▸ h)) y (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 y)
  · intro y
    unfold sout0_A_0
    rw [e2, eL]
    rw [List.append_assoc, View.writes_append]
    exact View.read_writes_apply_of_pieces (Val := Elt Ideal) VS0_0 _ (BS (fun b h => X.S b h (2 * t + 2))) _ hs y (hc y)

variable (m : (ℓ : Loc nD τ sig) → Buf (Elt Ideal) ℓ)

/-- The layer's arrays. -/
abbrev XK (c : Dev nD) : Arrs :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg8), m ((c : Thread nD τ).loc main_arg9)⟩

theorem idx_val : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0]
    ∧ win0_9.index t = ![0, t.val, 0, 0]
    ∧ win0_10.index t = ![0, 0]
    ∧ win0_11.index t = ![0, t.val, 0] :=
  (by decide +kernel : ∀ t : Fin grid0.N, _)

theorem b0_at (c : Dev nD) (t : Fin cfg0.N) (ht : t.val < 64) (b : Fin 8) (r : Fin 128) (d : Fin 512) :
    iblk m c 0 t (ix3 b r d) = m ((c : Thread nD τ).loc main_arg0) (ix3 b (tr t.val r) d) := by
  have e : (tr t.val r).val = t.val * 128 + r.val := by
    show (128 * t.val + r.val) % 8192 = _
    omega
  blk_point [iblk, V, idx_val t]

theorem b1_at (c : Dev nD) (t : Fin cfg0.N) (ht : t.val < 64) (b : Fin 8) (r : Fin 128) (d : Fin 512) :
    iblk m c 1 t (ix3 b r d) = m ((c : Thread nD τ).loc main_arg1) (ix3 b (tr t.val r) d) := by
  have e : (tr t.val r).val = t.val * 128 + r.val := by
    show (128 * t.val + r.val) % 8192 = _
    omega
  blk_point [iblk, V, idx_val t]

theorem b2_at (c : Dev nD) (t : Fin cfg0.N) (ht : t.val < 64) (b : Fin 8) (r : Fin 128) (d : Fin 512) :
    iblk m c 2 t (ix3 b r d) = m ((c : Thread nD τ).loc main_arg2) (ix3 b (tr t.val r) d) := by
  have e : (tr t.val r).val = t.val * 128 + r.val := by
    show (128 * t.val + r.val) % 8192 = _
    omega
  blk_point [iblk, V, idx_val t]

theorem b3_at (c : Dev nD) (t : Fin cfg0.N) (ht : t.val < 64) (b : Fin 8) (r : Fin 128) (d : Fin 512) :
    iblk m c 3 t (ix3 b r d) = m ((c : Thread nD τ).loc main_arg3) (ix3 b (tr t.val r) d) := by
  have e : (tr t.val r).val = t.val * 128 + r.val := by
    show (128 * t.val + r.val) % 8192 = _
    omega
  blk_point [iblk, V, idx_val t]

theorem b4_at (c : Dev nD) (t : Fin cfg0.N) (ht : t.val < 64) (b : Fin 8) (r : Fin 128) (d : Fin 512) :
    iblk m c 4 t (ix3 b r d) = m ((c : Thread nD τ).loc main_arg4) (ix3 b (tr t.val r) d) := by
  have e : (tr t.val r).val = t.val * 128 + r.val := by
    show (128 * t.val + r.val) % 8192 = _
    omega
  blk_point [iblk, V, idx_val t]

theorem b5_at (c : Dev nD) (t : Fin cfg0.N) (ht : t.val < 64) (b : Fin 8) (r : Fin 128) (d : Fin 512) :
    iblk m c 5 t (ix3 b r d) = m ((c : Thread nD τ).loc main_arg5) (ix3 b (tr t.val r) d) := by
  have e : (tr t.val r).val = t.val * 128 + r.val := by
    show (128 * t.val + r.val) % 8192 = _
    omega
  blk_point [iblk, V, idx_val t]

theorem b6_at (c : Dev nD) (t : Fin cfg0.N) (ht : t.val < 64) (b : Fin 8) (r : Fin 128) (d : Fin 512) :
    iblk m c 6 t (ix3 b r d) = m ((c : Thread nD τ).loc main_arg6) (ix3 b (tr t.val r) d) := by
  have e : (tr t.val r).val = t.val * 128 + r.val := by
    show (128 * t.val + r.val) % 8192 = _
    omega
  blk_point [iblk, V, idx_val t]

theorem b7_at (c : Dev nD) (t : Fin cfg0.N) (ht : t.val < 64) (b : Fin 8) (r : Fin 128) (d : Fin 512) :
    iblk m c 7 t (ix3 b r d) = m ((c : Thread nD τ).loc main_arg7) (ix3 b (tr t.val r) d) := by
  have e : (tr t.val r).val = t.val * 128 + r.val := by
    show (128 * t.val + r.val) % 8192 = _
    omega
  blk_point [iblk, V, idx_val t]

theorem b8_at (c : Dev nD) (t : Fin cfg0.N) (ht : t.val < 64) (b : Fin 8) (r : Fin 128) (d : Fin 256) :
    iblk m c 8 t (ix3 b r d) = m ((c : Thread nD τ).loc main_arg8) (ix3 b (tr t.val r) d) := by
  have e : (tr t.val r).val = t.val * 128 + r.val := by
    show (128 * t.val + r.val) % 8192 = _
    omega
  blk_point [iblk, V, idx_val t]

theorem b9_at (c : Dev nD) (t : Fin cfg0.N) (ht : t.val < 64) (b : Fin 8) (k : Fin 2) (d : Fin 512) :
    iblk m c 9 t (ix4 b 0 k d) = m ((c : Thread nD τ).loc main_arg9) (ix3 b ⟨(2 * t.val + k.val) % 128, Nat.mod_lt _ (by norm_num)⟩ d) := by
  blk_simp [iblk, idx_val t]
  entry_read
  pointwise
  blk_ext [idx_val t]

theorem b10_at (c : Dev nD) (t : Fin cfg0.N) (d : Fin 128) :
    iblk m c 10 t (ix2 0 d) = m ((c : Thread nD τ).loc main_arg10) (ix1 d) := by
  blk_simp [iblk, idx_val t]
  entry_read
  pointwise
  blk_ext [idx_val t]

theorem blk_at (c : Dev nD) (t : Fin cfg0.N) (ht : t.val < 64) :
    Blk (XK m c) (m ((c : Thread nD τ).loc main_arg7)) (m ((c : Thread nD τ).loc main_arg10)) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) where
  q := b0_at m c t ht
  k := b1_at m c t ht
  kb := b2_at m c t ht
  vb := b3_at m c t ht
  kbe := b4_at m c t ht
  qg := b5_at m c t ht
  kg := b6_at m c t ht
  zs := b7_at m c t ht
  dec := b8_at m c t ht
  g := b9_at m c t ht
  nw := b10_at m c t

theorem tr_val (t : ℕ) (ht : t < 64) (r : Fin 128) : (tr t r).val = t * 128 + r.val := by
  show (128 * t + r.val) % 8192 = _
  omega

theorem bs_zero (X : Arrs) (y : S8x2x256x256.Idx) : 0 = BS (fun b h => X.S b h (2 * 0)) y := by
  unfold BS
  split
  · rfl
  · rfl

theorem state_at (c : Dev nD) : ∀ (n : ℕ) (hn : n < cfg0.N) (y : S8x2x256x256.Idx),
    (outsAt0 m c n hn).2 y = BS (fun b h => (XK m c).S b h (2 * n + 2)) y := by
  intro n
  induction n with
  | zero =>
    intro hn y
    rw [outsAt0_A m c ⟨0, hn⟩ rfl]
    exact (out_A (XK m c) _ _ 0 (by norm_num) c _ _ _ _ _ _ _ _ _ _ _ _ _ _ _ _ _ _ _ _ _ _ _ _ _ _ _ _ _ _ _ _ _ _ _ _ _ _ _ (blk_at m c ⟨0, hn⟩ (by norm_num))
      (bs_zero (XK m c))).2 y
  | succ n ih =>
    intro hn y
    have ht : n + 1 < 64 := lt_of_lt_of_eq hn N_0
    have h : ¬(n + 1) % 64 = 0 := by omega
    rw [outsAt0_B m c ⟨n + 1, hn⟩ h]
    exact (out_B (XK m c) _ _ (n + 1) ht c _ _ _ _ _ _ _ _ _ _ _ _ _ _ _ _ _ _ _ _ _ _ _ _ _ _ _ _ _ _ _ _ _ _ _ _ _ _ _ _ (blk_at m c ⟨n + 1, hn⟩ ht)
      (ih (Nat.lt_of_succ_lt hn))).2 y

theorem final (c : Dev nD) : (dats m 0 c).arrAt 11 (cfgs 0).N
    = fun j : (⟨3, ![8, 8192, 512]⟩ : Shape).Idx => (XK m c).out (m ((c : Thread nD τ).loc main_arg7)) (m ((c : Thread nD τ).loc main_arg10)) (j 0) (j 1) (j 2) := by
  refine (dats m 0 c).arrAt_eq_of_covers 11 _ (by decide +kernel) fun t hf y => ?_
  blk_simp
  rw [after0_11]
  have ht : t.val < 64 := lt_of_lt_of_eq t.isLt N_0
  have hr : (tr t.val (y 1)).val = t.val * 128 + (y 1 : Fin 128).val := tr_val t.val ht (y 1)
  have hy : (win0_11.blk t).view.emb y = ix3 (y 0) (tr t.val (y 1)) (y 2) := by blk_ext [idx_val t]
  rw [hy]
  have key : (outsAt0 m c t.val t.isLt).1 y = OB (XK m c) (m ((c : Thread nD τ).loc main_arg7)) (m ((c : Thread nD τ).loc main_arg10)) t.val y := by
    by_cases h : t.val % 64 = 0
    · rw [outsAt0_A m c t h]
      exact (out_A (XK m c) _ _ t.val ht c _ _ _ _ _ _ _ _ _ _ _ _ _ _ _ _ _ _ _ _ _ _ _ _ _ _ _ _ _ _ _ _ _ _ _ _ _ _ _ (blk_at m c t ht)
        (fun y => (bs_zero (XK m c) y).trans (by rw [show t.val = 0 by omega]))).1 y
    · rw [outsAt0_B m c t h]
      refine (out_B (XK m c) _ _ t.val ht c _ _ _ _ _ _ _ _ _ _ _ _ _ _ _ _ _ _ _ _ _ _ _ _ _ _ _ _ _ _ _ _ _ _ _ _ _ _ _ _ (blk_at m c t ht)
        (fun y => ?_)).1 y
      rw [state_at m c (t.val - 1) _ y, show 2 * (t.val - 1) + 2 = 2 * t.val by omega]
  exact key

end Cert.Gdn

end
-- ==== Proof.GdnStepRun.lean ====
/- The reference's run over its states: at a valuation that holds a state every value of one trip is the step's, so one more
   trip keeps holding with `step` applied; and the result is a function of `step` iterated from `init`. The text is
   Gen/ReferenceIdeal/StepRun.lean's, with the two updated arrays closed by `exact`. -/
module

public import proofs.«01_k».proof.Proof.Gen.ReferenceIdeal.Run
public import proofs.«01_k».proof.Proof.Gen.ReferenceIdeal.Step

@[expose] public section

noncomputable section

namespace Cert.ReferenceIdeal.GdnStepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v47_9) = s.main_v47_9
  f_10 : V0 (Proc.devRef .tc main_v47_10) = s.main_v47_10
  f_11 : V0 (Proc.devRef .tc main_v47_11) = s.main_v47_11
  f_12 : V0 (Proc.devRef .tc main_v47_12) = s.main_v47_12
  f_13 : V0 (Proc.devRef .tc main_v47_13) = s.main_v47_13
  f_14 : V0 (Proc.devRef .tc main_v47_14) = s.main_v47_14
  f_1 : V0 (Proc.devRef .tc main_v47_1) = s.main_v47_1
  f_2 : V0 (Proc.devRef .tc main_v47_2) = s.main_v47_2
  f_3 : V0 (Proc.devRef .tc main_v47_3) = s.main_v47_3
  f_4 : V0 (Proc.devRef .tc main_v47_4) = s.main_v47_4
  f_5 : V0 (Proc.devRef .tc main_v47_5) = s.main_v47_5
  f_6 : V0 (Proc.devRef .tc main_v47_6) = s.main_v47_6
  n_8 : V0 (Proc.devRef .tc main_v47_8) = constantI S_ 32 (BitVec.ofNat 32 j)
  k_0 : V0 (Proc.devRef .tc main_v47_0) = Cert.ReferenceIdeal.Step.K_main_v28 (F := F)
  k_7 : V0 (Proc.devRef .tc main_v47_7) = Cert.ReferenceIdeal.Step.K_main_v0 (F := F)

variable {V0 s j}

set_option maxRecDepth 8192 in
theorem al_0 (h : Holds V0 s j) : (Host.dynamicSlice S1 (V0 (Proc.devRef .tc main_v47_0)) (fun k => (((![V0 (Proc.devRef .tc main_v47_8)] : Fin 1 → (⟨S_, .i32⟩ : BufTy).Contents (Elt F))) k (Shape.Idx.first h_S_)).toInt) sliceFits_S8192_S1 : (Proc.devRef .tc main_while0b_call1_v0 : DevRef τ sig).ty.Contents (Elt F)) = Cert.ReferenceIdeal.Step.b0 j s := by
  unfold Cert.ReferenceIdeal.Step.b0
  rw [h.k_0, h.n_8]
  try rfl
set_option maxRecDepth 8192 in
theorem al_1 (h : Holds V0 s j) : (res_main_while0b_v86 V0 : (Proc.devRef .tc main_while0b_v86 : DevRef τ sig).ty.Contents (Elt F)) = Cert.ReferenceIdeal.Step.b1 j s := by
  unfold res_main_while0b_v86 Cert.ReferenceIdeal.Step.b1
  rw [← al_0 h]
  try rfl
set_option maxRecDepth 8192 in
theorem al_2 (h : Holds V0 s j) : (constantI S_ 32 0#32 : (Proc.devRef .tc main_while0b_call2_c : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_0 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call2_c_1 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x8x4x64 (V0 (Proc.devRef .tc main_v47_1)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x64_S1x8x4x64 : (Proc.devRef .tc main_while0b_call2_v0 : DevRef τ sig).ty.Contents (Elt F)) = Cert.ReferenceIdeal.Step.b5 j s := by
  unfold Cert.ReferenceIdeal.Step.b5
  rw [← al_2 h, ← al_3 h, ← al_4 h, h.f_1, h.n_8]
  try rfl
set_option maxRecDepth 8192 in
theorem al_6 (h : Holds V0 s j) : (res_main_while0b_v87 V0 : (Proc.devRef .tc main_while0b_v87 : DevRef τ sig).ty.Contents (Elt F)) = Cert.ReferenceIdeal.Step.b6 j s := by
  unfold res_main_while0b_v87 Cert.ReferenceIdeal.Step.b6
  rw [← al_5 h]
  try rfl
set_option maxRecDepth 8192 in
theorem al_7 (h : Holds V0 s j) : (constantI S_ 32 0#32 : (Proc.devRef .tc main_while0b_call3_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_1 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x4x128 (V0 (Proc.devRef .tc main_v47_2)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128 : (Proc.devRef .tc main_while0b_call3_v0 : DevRef τ sig).ty.Contents (Elt F)) = Cert.ReferenceIdeal.Step.b10 j s := by
  unfold Cert.ReferenceIdeal.Step.b10
  rw [← al_7 h, ← al_8 h, ← al_9 h, h.f_2, h.n_8]
  try rfl
set_option maxRecDepth 8192 in
theorem al_11 (h : Holds V0 s j) : (shapeCast S8x4x128 (Host.dynamicSlice S1x8x4x128 (V0 (Proc.devRef .tc main_v47_2)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128 : (Proc.devRef .tc main_while0b_v88 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (Host.dynamicSlice S1x8x4x128 (V0 (Proc.devRef .tc main_v47_3)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128 : (Proc.devRef .tc main_while0b_call4_v0 : DevRef τ sig).ty.Contents (Elt F)) = Cert.ReferenceIdeal.Step.b15 j s := by
  unfold Cert.ReferenceIdeal.Step.b15
  rw [← al_12 h, ← al_13 h, ← al_14 h, h.f_3, h.n_8]
  try rfl
set_option maxRecDepth 8192 in
theorem al_16 (h : Holds V0 s j) : (shapeCast S8x4x128 (Host.dynamicSlice S1x8x4x128 (V0 (Proc.devRef .tc main_v47_3)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128 : (Proc.devRef .tc main_while0b_v89 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (constantI S_ 32 0#32 : (Proc.devRef .tc main_while0b_call5_c : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call5_c_0 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_1 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x8x4x128 (V0 (Proc.devRef .tc main_v47_4)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128 : (Proc.devRef .tc main_while0b_call5_v0 : DevRef τ sig).ty.Contents (Elt F)) = Cert.ReferenceIdeal.Step.b20 j s := by
  unfold Cert.ReferenceIdeal.Step.b20
  rw [← al_17 h, ← al_18 h, ← al_19 h, h.f_4, h.n_8]
  try rfl
set_option maxRecDepth 8192 in
theorem al_21 (h : Holds V0 s j) : (shapeCast S8x4x128 (Host.dynamicSlice S1x8x4x128 (V0 (Proc.devRef .tc main_v47_4)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128 : (Proc.devRef .tc main_while0b_v90 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constantI S_ 32 0#32 : (Proc.devRef .tc main_while0b_call6_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call6_c_0 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call6_c_1 : DevRef τ sig).ty.Contents (Elt F)) = Cert.ReferenceIdeal.Step.b24 j s := by
  unfold Cert.ReferenceIdeal.Step.b24
  rfl
set_option maxRecDepth 8192 in
theorem al_25 (h : Holds V0 s j) : (Host.dynamicSlice S1x8x4x128 (V0 (Proc.devRef .tc main_v47_5)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128 : (Proc.devRef .tc main_while0b_call6_v0 : DevRef τ sig).ty.Contents (Elt F)) = Cert.ReferenceIdeal.Step.b25 j s := by
  unfold Cert.ReferenceIdeal.Step.b25
  rw [← al_22 h, ← al_23 h, ← al_24 h, h.f_5, h.n_8]
  try rfl
set_option maxRecDepth 8192 in
theorem al_26 (h : Holds V0 s j) : (shapeCast S8x4x128 (Host.dynamicSlice S1x8x4x128 (V0 (Proc.devRef .tc main_v47_5)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128 : (Proc.devRef .tc main_while0b_v91 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (constantI S_ 32 0#32 : (Proc.devRef .tc main_while0b_call7_c : DevRef τ sig).ty.Contents (Elt F)) = Cert.ReferenceIdeal.Step.b27 j s := by
  unfold Cert.ReferenceIdeal.Step.b27
  rfl
set_option maxRecDepth 8192 in
theorem al_28 (h : Holds V0 s j) : (constantI S_ 32 0#32 : (Proc.devRef .tc main_while0b_call7_c_0 : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call7_c_1 : DevRef τ sig).ty.Contents (Elt F)) = Cert.ReferenceIdeal.Step.b29 j s := by
  unfold Cert.ReferenceIdeal.Step.b29
  rfl
set_option maxRecDepth 8192 in
theorem al_30 (h : Holds V0 s j) : (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128 : (Proc.devRef .tc main_while0b_call7_v0 : DevRef τ sig).ty.Contents (Elt F)) = Cert.ReferenceIdeal.Step.b30 j s := by
  unfold Cert.ReferenceIdeal.Step.b30
  rw [← al_27 h, ← al_28 h, ← al_29 h, h.f_6, h.n_8]
  try rfl
set_option maxRecDepth 8192 in
theorem al_31 (h : Holds V0 s j) : (shapeCast S8x4x128 (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128 : (Proc.devRef .tc main_while0b_v92 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (constantI S_ 32 0#32 : (Proc.devRef .tc main_while0b_c_23 : DevRef τ sig).ty.Contents (Elt F)) = Cert.ReferenceIdeal.Step.b32 j s := by
  unfold Cert.ReferenceIdeal.Step.b32
  rfl
set_option maxRecDepth 8192 in
theorem al_33 (h : Holds V0 s j) : (cmpi .eq (res_main_while0b_v86 V0) (constantI S_ 32 0#32) : (Proc.devRef .tc main_while0b_v93 : DevRef τ sig).ty.Contents (Elt F)) = Cert.ReferenceIdeal.Step.b33 j s := by
  unfold Cert.ReferenceIdeal.Step.b33
  rw [← al_1 h, ← al_32 h]
  try rfl
set_option maxRecDepth 8192 in
theorem al_34 (h : Holds V0 s j) : (broadcastInDim S8x4x128x128 ![] bcast_S_S8x4x128x128 (cmpi .eq (res_main_while0b_v86 V0) (constantI S_ 32 0#32)) : (Proc.devRef .tc main_while0b_v94 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (res_main_while0b_v95 V0 : (Proc.devRef .tc main_while0b_v95 : DevRef τ sig).ty.Contents (Elt F)) = Cert.ReferenceIdeal.Step.b35 j s := by
  unfold res_main_while0b_v95 Cert.ReferenceIdeal.Step.b35
  rw [← al_34 h, h.f_12, h.f_11]
  try rfl
set_option maxRecDepth 8192 in
theorem al_36 (h : Holds V0 s j) : (constantI S_ 32 0#32 : (Proc.devRef .tc main_while0b_c_24 : DevRef τ sig).ty.Contents (Elt F)) = Cert.ReferenceIdeal.Step.b36 j s := by
  unfold Cert.ReferenceIdeal.Step.b36
  rfl
set_option maxRecDepth 8192 in
theorem al_37 (h : Holds V0 s j) : (cmpi .eq (res_main_while0b_v86 V0) (constantI S_ 32 0#32) : (Proc.devRef .tc main_while0b_v96 : DevRef τ sig).ty.Contents (Elt F)) = Cert.ReferenceIdeal.Step.b37 j s := by
  unfold Cert.ReferenceIdeal.Step.b37
  rw [← al_1 h, ← al_36 h]
  try rfl
set_option maxRecDepth 8192 in
theorem al_38 (h : Holds V0 s j) : (broadcastInDim S8x4x128x128 ![] bcast_S_S8x4x128x128 (cmpi .eq (res_main_while0b_v86 V0) (constantI S_ 32 0#32)) : (Proc.devRef .tc main_while0b_v97 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (broadcastInDim S8x4x1x128 ![0, 1, 3] bcast_S8x4x128_S8x4x1x128_0_1_3 (shapeCast S8x4x128 (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128) : (Proc.devRef .tc main_while0b_v98 : DevRef τ sig).ty.Contents (Elt F)) = Cert.ReferenceIdeal.Step.b39 j s := by
  unfold Cert.ReferenceIdeal.Step.b39
  rw [← al_31 h]
  try rfl
set_option maxRecDepth 8192 in
theorem al_40 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128)) : (Proc.devRef .tc main_while0b_v99 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (mulf (res_main_while0b_v95 V0) (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128))) : (Proc.devRef .tc main_while0b_v100 : DevRef τ sig).ty.Contents (Elt F)) = Cert.ReferenceIdeal.Step.b41 j s := by
  unfold Cert.ReferenceIdeal.Step.b41
  rw [← al_35 h, ← al_40 h]
  try rfl
set_option maxRecDepth 8192 in
theorem al_42 (h : Holds V0 s j) : (select (broadcastInDim S8x4x128x128 ![] bcast_S_S8x4x128x128 (cmpi .eq (res_main_while0b_v86 V0) (constantI S_ 32 0#32))) (mulf (res_main_while0b_v95 V0) (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128)))) (V0 (Proc.devRef .tc main_v47_12)) : (Proc.devRef .tc main_while0b_v101 : DevRef τ sig).ty.Contents (Elt F)) = Cert.ReferenceIdeal.Step.b42 j s := by
  unfold Cert.ReferenceIdeal.Step.b42
  rw [← al_38 h, ← al_41 h, h.f_12]
  try rfl
set_option maxRecDepth 8192 in
theorem al_43 (h : Holds V0 s j) : (Host.dotGeneral dot_S8x4x64_S8x4x64x128_S8x4x128_2_2_n_3_01_01 none (res_main_while0b_v87 V0) (V0 (Proc.devRef .tc main_v47_9)) : (Proc.devRef .tc main_while0b_v102 : DevRef τ sig).ty.Contents (Elt F)) = Cert.ReferenceIdeal.Step.b43 j s := by
  unfold Cert.ReferenceIdeal.Step.b43
  rw [← al_6 h, h.f_9]
  try rfl
set_option maxRecDepth 8192 in
theorem al_44 (h : Holds V0 s j) : (res_main_while0b_v103 V0 : (Proc.devRef .tc main_while0b_v103 : DevRef τ sig).ty.Contents (Elt F)) = Cert.ReferenceIdeal.Step.b44 j s := by
  unfold res_main_while0b_v103 Cert.ReferenceIdeal.Step.b44
  rw [← al_11 h, ← al_43 h]
  try rfl
set_option maxRecDepth 8192 in
theorem al_45 (h : Holds V0 s j) : (Host.dotGeneral dot_S8x4x64_S8x4x64x128_S8x4x128_2_2_n_3_01_01 none (res_main_while0b_v87 V0) (V0 (Proc.devRef .tc main_v47_10)) : (Proc.devRef .tc main_while0b_v104 : DevRef τ sig).ty.Contents (Elt F)) = Cert.ReferenceIdeal.Step.b45 j s := by
  unfold Cert.ReferenceIdeal.Step.b45
  rw [← al_6 h, h.f_10]
  try rfl
set_option maxRecDepth 8192 in
theorem al_46 (h : Holds V0 s j) : (res_main_while0b_v105 V0 : (Proc.devRef .tc main_while0b_v105 : DevRef τ sig).ty.Contents (Elt F)) = Cert.ReferenceIdeal.Step.b46 j s := by
  unfold res_main_while0b_v105 Cert.ReferenceIdeal.Step.b46
  rw [← al_16 h, ← al_45 h]
  try rfl
set_option maxRecDepth 8192 in
theorem al_47 (h : Holds V0 s j) : (broadcastInDim S64 ![] bcast_S_S64 (res_main_while0b_v86 V0) : (Proc.devRef .tc main_while0b_v106 : DevRef τ sig).ty.Contents (Elt F)) = Cert.ReferenceIdeal.Step.b47 j s := by
  unfold Cert.ReferenceIdeal.Step.b47
  rw [← al_1 h]
  try rfl
set_option maxRecDepth 8192 in
theorem al_48 (h : Holds V0 s j) : (cmpi .eq (V0 (Proc.devRef .tc main_v47_7)) (broadcastInDim S64 ![] bcast_S_S64 (res_main_while0b_v86 V0)) : (Proc.devRef .tc main_while0b_v107 : DevRef τ sig).ty.Contents (Elt F)) = Cert.ReferenceIdeal.Step.b48 j s := by
  unfold Cert.ReferenceIdeal.Step.b48
  rw [← al_47 h, h.k_7]
  try rfl
set_option maxRecDepth 8192 in
theorem al_49 (h : Holds V0 s j) : (broadcastInDim S1x1x64x1 ![2] bcast_S64_S1x1x64x1_2 (cmpi .eq (V0 (Proc.devRef .tc main_v47_7)) (broadcastInDim S64 ![] bcast_S_S64 (res_main_while0b_v86 V0))) : (Proc.devRef .tc main_while0b_v108 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (res_main_while0b_v109 V0 : (Proc.devRef .tc main_while0b_v109 : DevRef τ sig).ty.Contents (Elt F)) = Cert.ReferenceIdeal.Step.b50 j s := by
  unfold res_main_while0b_v109 Cert.ReferenceIdeal.Step.b50
  rw [← al_49 h]
  try rfl
set_option maxRecDepth 8192 in
theorem al_51 (h : Holds V0 s j) : (broadcastInDim S8x4x1x128 ![0, 1, 3] bcast_S8x4x128_S8x4x1x128_0_1_3 (res_main_while0b_v103 V0) : (Proc.devRef .tc main_while0b_v110 : DevRef τ sig).ty.Contents (Elt F)) = Cert.ReferenceIdeal.Step.b51 j s := by
  unfold Cert.ReferenceIdeal.Step.b51
  rw [← al_44 h]
  try rfl
set_option maxRecDepth 8192 in
theorem al_52 (h : Holds V0 s j) : (broadcastInDim S8x4x64x128 ![0, 1, 2, 3] bcast_S8x4x1x128_S8x4x64x128_0_1_2_3 (broadcastInDim S8x4x1x128 ![0, 1, 3] bcast_S8x4x128_S8x4x1x128_0_1_3 (res_main_while0b_v103 V0)) : (Proc.devRef .tc main_while0b_v111 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (select (res_main_while0b_v109 V0) (broadcastInDim S8x4x64x128 ![0, 1, 2, 3] bcast_S8x4x1x128_S8x4x64x128_0_1_2_3 (broadcastInDim S8x4x1x128 ![0, 1, 3] bcast_S8x4x128_S8x4x1x128_0_1_3 (res_main_while0b_v103 V0))) (V0 (Proc.devRef .tc main_v47_9)) : (Proc.devRef .tc main_while0b_v112 : DevRef τ sig).ty.Contents (Elt F)) = Cert.ReferenceIdeal.Step.b53 j s := by
  unfold Cert.ReferenceIdeal.Step.b53
  rw [← al_50 h, ← al_52 h, h.f_9]
  try rfl
set_option maxRecDepth 8192 in
theorem al_54 (h : Holds V0 s j) : (broadcastInDim S8x4x1x128 ![0, 1, 3] bcast_S8x4x128_S8x4x1x128_0_1_3 (res_main_while0b_v105 V0) : (Proc.devRef .tc main_while0b_v113 : DevRef τ sig).ty.Contents (Elt F)) = Cert.ReferenceIdeal.Step.b54 j s := by
  unfold Cert.ReferenceIdeal.Step.b54
  rw [← al_46 h]
  try rfl
set_option maxRecDepth 8192 in
theorem al_55 (h : Holds V0 s j) : (broadcastInDim S8x4x64x128 ![0, 1, 2, 3] bcast_S8x4x1x128_S8x4x64x128_0_1_2_3 (broadcastInDim S8x4x1x128 ![0, 1, 3] bcast_S8x4x128_S8x4x1x128_0_1_3 (res_main_while0b_v105 V0)) : (Proc.devRef .tc main_while0b_v114 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (select (res_main_while0b_v109 V0) (broadcastInDim S8x4x64x128 ![0, 1, 2, 3] bcast_S8x4x1x128_S8x4x64x128_0_1_2_3 (broadcastInDim S8x4x1x128 ![0, 1, 3] bcast_S8x4x128_S8x4x1x128_0_1_3 (res_main_while0b_v105 V0))) (V0 (Proc.devRef .tc main_v47_10)) : (Proc.devRef .tc main_while0b_v115 : DevRef τ sig).ty.Contents (Elt F)) = Cert.ReferenceIdeal.Step.b56 j s := by
  unfold Cert.ReferenceIdeal.Step.b56
  rw [← al_50 h, ← al_55 h, h.f_10]
  try rfl
set_option maxRecDepth 8192 in
theorem al_57 (h : Holds V0 s j) : (Host.dotGeneral dot_S8x4x128_S8x4x128x128_S8x4x128_2_2_n_3_01_01 none (res_main_while0b_v105 V0) (res_main_while0b_v95 V0) : (Proc.devRef .tc main_while0b_v116 : DevRef τ sig).ty.Contents (Elt F)) = Cert.ReferenceIdeal.Step.b57 j s := by
  unfold Cert.ReferenceIdeal.Step.b57
  rw [← al_46 h, ← al_35 h]
  try rfl
set_option maxRecDepth 8192 in
theorem al_58 (h : Holds V0 s j) : (res_main_while0b_v117 V0 : (Proc.devRef .tc main_while0b_v117 : DevRef τ sig).ty.Contents (Elt F)) = Cert.ReferenceIdeal.Step.b58 j s := by
  unfold res_main_while0b_v117 Cert.ReferenceIdeal.Step.b58
  rw [← al_44 h, ← al_57 h]
  try rfl
set_option maxRecDepth 8192 in
theorem al_59 (h : Holds V0 s j) : (broadcastInDim S8x4x128x1 ![0, 1, 2] bcast_S8x4x128_S8x4x128x1_0_1_2 (shapeCast S8x4x128 (Host.dynamicSlice S1x8x4x128 (V0 (Proc.devRef .tc main_v47_5)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128) : (Proc.devRef .tc main_while0b_v118 : DevRef τ sig).ty.Contents (Elt F)) = Cert.ReferenceIdeal.Step.b59 j s := by
  unfold Cert.ReferenceIdeal.Step.b59
  rw [← al_26 h]
  try rfl
set_option maxRecDepth 8192 in
theorem al_60 (h : Holds V0 s j) : (broadcastInDim S8x4x1x128 ![0, 1, 3] bcast_S8x4x128_S8x4x1x128_0_1_3 (res_main_while0b_v117 V0) : (Proc.devRef .tc main_while0b_v119 : DevRef τ sig).ty.Contents (Elt F)) = Cert.ReferenceIdeal.Step.b60 j s := by
  unfold Cert.ReferenceIdeal.Step.b60
  rw [← al_58 h]
  try rfl
set_option maxRecDepth 8192 in
theorem al_61 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (shapeCast S8x4x128 (Host.dynamicSlice S1x8x4x128 (V0 (Proc.devRef .tc main_v47_5)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128)) : (Proc.devRef .tc main_while0b_v120 : DevRef τ sig).ty.Contents (Elt F)) = Cert.ReferenceIdeal.Step.b61 j s := by
  unfold Cert.ReferenceIdeal.Step.b61
  rw [← al_59 h]
  try rfl
set_option maxRecDepth 8192 in
theorem al_62 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v117 V0)) : (Proc.devRef .tc main_while0b_v121 : DevRef τ sig).ty.Contents (Elt F)) = Cert.ReferenceIdeal.Step.b62 j s := by
  unfold Cert.ReferenceIdeal.Step.b62
  rw [← al_60 h]
  try rfl
set_option maxRecDepth 8192 in
theorem al_63 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (shapeCast S8x4x128 (Host.dynamicSlice S1x8x4x128 (V0 (Proc.devRef .tc main_v47_5)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v117 V0))) : (Proc.devRef .tc main_while0b_v122 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (addf (select (broadcastInDim S8x4x128x128 ![] bcast_S_S8x4x128x128 (cmpi .eq (res_main_while0b_v86 V0) (constantI S_ 32 0#32))) (mulf (res_main_while0b_v95 V0) (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128)))) (V0 (Proc.devRef .tc main_v47_12))) (mulf (broadcastInDim S8x4x128x128 ![0, 1, 2, 3] bcast_S8x4x128x1_S8x4x128x128_0_1_2_3 (broadcastInDim S8x4x128x1 ![0, 1, 2] bcast_S8x4x128_S8x4x128x1_0_1_2 (shapeCast S8x4x128 (Host.dynamicSlice S1x8x4x128 (V0 (Proc.devRef .tc main_v47_5)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v117 V0)))) : (Proc.devRef .tc main_while0b_v123 : DevRef τ sig).ty.Contents (Elt F)) = Cert.ReferenceIdeal.Step.b64 j s := by
  unfold Cert.ReferenceIdeal.Step.b64
  rw [← al_42 h, ← al_63 h]
  try rfl
set_option maxRecDepth 8192 in
theorem al_65 (h : Holds V0 s j) : (Host.dotGeneral dot_S8x4x128_S8x4x128x128_S8x4x128_2_2_n_3_01_01 none (shapeCast S8x4x128 (Host.dynamicSlice S1x8x4x128 (V0 (Proc.devRef .tc main_v47_4)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128) (res_main_while0b_v95 V0) : (Proc.devRef .tc main_while0b_v124 : DevRef τ sig).ty.Contents (Elt F)) = Cert.ReferenceIdeal.Step.b65 j s := by
  unfold Cert.ReferenceIdeal.Step.b65
  rw [← al_21 h, ← al_35 h]
  try rfl
set_option maxRecDepth 8192 in
theorem al_66 (h : Holds V0 s j) : (broadcastInDim S1x8x4x128 ![1, 2, 3] bcast_S8x4x128_S1x8x4x128_1_2_3 (res_main_while0b_v117 V0) : (Proc.devRef .tc main_while0b_call8_v0 : DevRef τ sig).ty.Contents (Elt F)) = Cert.ReferenceIdeal.Step.b66 j s := by
  unfold Cert.ReferenceIdeal.Step.b66
  rw [← al_58 h]
  try rfl
set_option maxRecDepth 8192 in
theorem al_67 (h : Holds V0 s j) : (constantI S_ 32 0#32 : (Proc.devRef .tc main_while0b_call8_c : DevRef τ sig).ty.Contents (Elt F)) = Cert.ReferenceIdeal.Step.b67 j s := by
  unfold Cert.ReferenceIdeal.Step.b67
  rfl
set_option maxRecDepth 8192 in
theorem al_68 (h : Holds V0 s j) : (constantI S_ 32 0#32 : (Proc.devRef .tc main_while0b_call8_c_0 : DevRef τ sig).ty.Contents (Elt F)) = Cert.ReferenceIdeal.Step.b68 j s := by
  unfold Cert.ReferenceIdeal.Step.b68
  rfl
set_option maxRecDepth 8192 in
theorem al_69 (h : Holds V0 s j) : (constantI S_ 32 0#32 : (Proc.devRef .tc main_while0b_call8_c_1 : DevRef τ sig).ty.Contents (Elt F)) = Cert.ReferenceIdeal.Step.b69 j s := by
  unfold Cert.ReferenceIdeal.Step.b69
  rfl
set_option maxRecDepth 8192 in
theorem al_70 (h : Holds V0 s j) : (Host.dynamicUpdateSlice (V0 (Proc.devRef .tc main_v47_13)) (broadcastInDim S1x8x4x128 ![1, 2, 3] bcast_S8x4x128_S1x8x4x128_1_2_3 (res_main_while0b_v117 V0)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) updateFits_S8192x8x4x128_S1x8x4x128 : (Proc.devRef .tc main_while0b_v125 : DevRef τ sig).ty.Contents (Elt F)) = Cert.ReferenceIdeal.Step.b70 j s := by
  unfold Cert.ReferenceIdeal.Step.b70
  rw [← al_66 h, ← al_67 h, ← al_68 h, ← al_69 h, h.f_13, h.n_8]
  try rfl
set_option maxRecDepth 8192 in
theorem al_71 (h : Holds V0 s j) : (broadcastInDim S1x8x4x128 ![1, 2, 3] bcast_S8x4x128_S1x8x4x128_1_2_3 (Host.dotGeneral dot_S8x4x128_S8x4x128x128_S8x4x128_2_2_n_3_01_01 none (shapeCast S8x4x128 (Host.dynamicSlice S1x8x4x128 (V0 (Proc.devRef .tc main_v47_4)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128) (res_main_while0b_v95 V0)) : (Proc.devRef .tc main_while0b_call9_v0 : DevRef τ sig).ty.Contents (Elt F)) = Cert.ReferenceIdeal.Step.b71 j s := by
  unfold Cert.ReferenceIdeal.Step.b71
  rw [← al_65 h]
  try rfl
set_option maxRecDepth 8192 in
theorem al_72 (h : Holds V0 s j) : (constantI S_ 32 0#32 : (Proc.devRef .tc main_while0b_call9_c : DevRef τ sig).ty.Contents (Elt F)) = Cert.ReferenceIdeal.Step.b72 j s := by
  unfold Cert.ReferenceIdeal.Step.b72
  rfl
set_option maxRecDepth 8192 in
theorem al_73 (h : Holds V0 s j) : (constantI S_ 32 0#32 : (Proc.devRef .tc main_while0b_call9_c_0 : DevRef τ sig).ty.Contents (Elt F)) = Cert.ReferenceIdeal.Step.b73 j s := by
  unfold Cert.ReferenceIdeal.Step.b73
  rfl
set_option maxRecDepth 8192 in
theorem al_74 (h : Holds V0 s j) : (constantI S_ 32 0#32 : (Proc.devRef .tc main_while0b_call9_c_1 : DevRef τ sig).ty.Contents (Elt F)) = Cert.ReferenceIdeal.Step.b74 j s := by
  unfold Cert.ReferenceIdeal.Step.b74
  rfl
set_option maxRecDepth 8192 in
theorem al_75 (h : Holds V0 s j) : (Host.dynamicUpdateSlice (V0 (Proc.devRef .tc main_v47_14)) (broadcastInDim S1x8x4x128 ![1, 2, 3] bcast_S8x4x128_S1x8x4x128_1_2_3 (Host.dotGeneral dot_S8x4x128_S8x4x128x128_S8x4x128_2_2_n_3_01_01 none (shapeCast S8x4x128 (Host.dynamicSlice S1x8x4x128 (V0 (Proc.devRef .tc main_v47_4)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128) (res_main_while0b_v95 V0))) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) updateFits_S8192x8x4x128_S1x8x4x128 : (Proc.devRef .tc main_while0b_v126 : DevRef τ sig).ty.Contents (Elt F)) = Cert.ReferenceIdeal.Step.b75 j s := by
  unfold Cert.ReferenceIdeal.Step.b75
  rw [← al_71 h, ← al_72 h, ← al_73 h, ← al_74 h, h.f_14, h.n_8]
  try rfl

/-! One trip's step of the carried values is `step`, field by field; a counter steps to the next number. -/

theorem step_9 (h : Holds V0 s j) : step_main_v47_9 V0 = (step j s).main_v47_9 := by
  unfold step_main_v47_9 Cert.ReferenceIdeal.Step.step
  show id (select (res_main_while0b_v109 V0) (broadcastInDim S8x4x64x128 ![0, 1, 2, 3] bcast_S8x4x1x128_S8x4x64x128_0_1_2_3 (broadcastInDim S8x4x1x128 ![0, 1, 3] bcast_S8x4x128_S8x4x1x128_0_1_3 (res_main_while0b_v103 V0))) (V0 (Proc.devRef .tc main_v47_9))) = _
  rw [al_53 h]
  try rfl
theorem step_10 (h : Holds V0 s j) : step_main_v47_10 V0 = (step j s).main_v47_10 := by
  unfold step_main_v47_10 Cert.ReferenceIdeal.Step.step
  show id (select (res_main_while0b_v109 V0) (broadcastInDim S8x4x64x128 ![0, 1, 2, 3] bcast_S8x4x1x128_S8x4x64x128_0_1_2_3 (broadcastInDim S8x4x1x128 ![0, 1, 3] bcast_S8x4x128_S8x4x1x128_0_1_3 (res_main_while0b_v105 V0))) (V0 (Proc.devRef .tc main_v47_10))) = _
  rw [al_56 h]
  try rfl
theorem step_11 (h : Holds V0 s j) : step_main_v47_11 V0 = (step j s).main_v47_11 := by
  unfold step_main_v47_11 Cert.ReferenceIdeal.Step.step
  show id (res_main_while0b_v95 V0) = _
  rw [al_35 h]
  try rfl
theorem step_12 (h : Holds V0 s j) : step_main_v47_12 V0 = (step j s).main_v47_12 := by
  unfold step_main_v47_12 Cert.ReferenceIdeal.Step.step
  show id (addf (select (broadcastInDim S8x4x128x128 ![] bcast_S_S8x4x128x128 (cmpi .eq (res_main_while0b_v86 V0) (constantI S_ 32 0#32))) (mulf (res_main_while0b_v95 V0) (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (Host.dynamicSlice S1x8x4x128 (V0 (Proc.devRef .tc main_v47_6)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128)))) (V0 (Proc.devRef .tc main_v47_12))) (mulf (broadcastInDim S8x4x128x128 ![0, 1, 2, 3] bcast_S8x4x128x1_S8x4x128x128_0_1_2_3 (broadcastInDim S8x4x128x1 ![0, 1, 2] bcast_S8x4x128_S8x4x128x1_0_1_2 (shapeCast S8x4x128 (Host.dynamicSlice S1x8x4x128 (V0 (Proc.devRef .tc main_v47_5)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v117 V0))))) = _
  rw [al_64 h]
  try rfl
theorem step_13 (h : Holds V0 s j) : step_main_v47_13 V0 = (step j s).main_v47_13 := by
  unfold step_main_v47_13 Cert.ReferenceIdeal.Step.step
  show id (Host.dynamicUpdateSlice (V0 (Proc.devRef .tc main_v47_13)) (broadcastInDim S1x8x4x128 ![1, 2, 3] bcast_S8x4x128_S1x8x4x128_1_2_3 (res_main_while0b_v117 V0)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) updateFits_S8192x8x4x128_S1x8x4x128) = _
  exact al_70 h
theorem step_14 (h : Holds V0 s j) : step_main_v47_14 V0 = (step j s).main_v47_14 := by
  unfold step_main_v47_14 Cert.ReferenceIdeal.Step.step
  show id (Host.dynamicUpdateSlice (V0 (Proc.devRef .tc main_v47_14)) (broadcastInDim S1x8x4x128 ![1, 2, 3] bcast_S8x4x128_S1x8x4x128_1_2_3 (Host.dotGeneral dot_S8x4x128_S8x4x128x128_S8x4x128_2_2_n_3_01_01 none (shapeCast S8x4x128 (Host.dynamicSlice S1x8x4x128 (V0 (Proc.devRef .tc main_v47_4)) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) sliceFits_S8192x8x4x128_S1x8x4x128) shapeCasts_S1x8x4x128_S8x4x128) (res_main_while0b_v95 V0))) (fun k => (((![V0 (Proc.devRef .tc main_v47_8), constantI S_ 32 0#32, constantI S_ 32 0#32, constantI S_ 32 0#32] : Fin 4 → (⟨S_, .i32⟩ : BufTy).Contents (Elt F))) k (Shape.Idx.first h_S_)).toInt) updateFits_S8192x8x4x128_S1x8x4x128) = _
  exact al_75 h
theorem step_8 (h : Holds V0 s j) : step_main_v47_8 V0 = constantI S_ 32 (BitVec.ofNat 32 (j + 1)) := by
  unfold step_main_v47_8
  rw [h.n_8]
  funext i
  show BitVec.ofNat 32 j + 1#32 = BitVec.ofNat 32 (j + 1)
  simp only [BitVec.ofNat_add]

set_option maxRecDepth 8192 in
theorem out_main_v85_holds (h : Holds V0 s j) {x_main_arg0 : (⟨S8x8192x512, .bf16⟩ : BufTy).Contents (Elt F)} (h_main_arg0 : V0 (Proc.devRef .tc main_arg0) = x_main_arg0) {x_main_arg1 : (⟨S8x8192x512, .bf16⟩ : BufTy).Contents (Elt F)} (h_main_arg1 : V0 (Proc.devRef .tc main_arg1) = x_main_arg1) {x_main_arg7 : (⟨S8x8192x512, .bf16⟩ : BufTy).Contents (Elt F)} (h_main_arg7 : V0 (Proc.devRef .tc main_arg7) = x_main_arg7) {x_main_arg8 : (⟨S8x8192x256, .f32⟩ : BufTy).Contents (Elt F)} (h_main_arg8 : V0 (Proc.devRef .tc main_arg8) = x_main_arg8) {x_main_arg10 : (⟨S128, .f32⟩ : BufTy).Contents (Elt F)} (h_main_arg10 : V0 (Proc.devRef .tc main_arg10) = x_main_arg10) : out_main_v85 V0 = Cert.ReferenceIdeal.Step.R_main_v85 s x_main_arg0 x_main_arg1 x_main_arg7 x_main_arg8 x_main_arg10 := by
  unfold out_main_v85 Cert.ReferenceIdeal.Step.R_main_v85
  rw [h.f_14, h.f_13, h_main_arg0, h_main_arg1, h_main_arg7, h_main_arg8, h_main_arg10]
  try rfl

/-- One trip keeps the valuation holding: `step` of the state, the same set-up values, the next number. -/
theorem holds_step (h : Holds V0 s j) : Holds (STEP V0) (step j s) (j + 1) where
  f_9 := (STEP_main_v47_9 V0).trans (step_9 h)
  f_10 := (STEP_main_v47_10 V0).trans (step_10 h)
  f_11 := (STEP_main_v47_11 V0).trans (step_11 h)
  f_12 := (STEP_main_v47_12 V0).trans (step_12 h)
  f_13 := (STEP_main_v47_13 V0).trans (step_13 h)
  f_14 := (STEP_main_v47_14 V0).trans (step_14 h)
  n_8 := (STEP_main_v47_8 V0).trans (step_8 h)
  k_0 := (STEP_main_v47_0 V0).trans h.k_0
  k_7 := (STEP_main_v47_7 V0).trans h.k_7
  f_1 := (STEP_main_v47_1 V0).trans h.f_1
  f_2 := (STEP_main_v47_2 V0).trans h.f_2
  f_3 := (STEP_main_v47_3 V0).trans h.f_3
  f_4 := (STEP_main_v47_4 V0).trans h.f_4
  f_5 := (STEP_main_v47_5 V0).trans h.f_5
  f_6 := (STEP_main_v47_6 V0).trans h.f_6

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v85) = Cert.ReferenceIdeal.Step.R_main_v85 (it c 8192) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 8192
    ⟨(h c).1.trans (out_main_v85_holds hk (iter_main_arg0 m c 8192) (iter_main_arg1 m c 8192) (iter_main_arg7 m c 8192) (iter_main_arg8 m c 8192) (iter_main_arg10 m c 8192)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.GdnStepRun

end
-- ==== Proof.GdnClaim.lean ====
/- The reference's run and its result over the entries of the arguments, equal to what the kernel's launch leaves. -/
module

public import proofs.«01_k».proof.Defs
public import proofs.«01_k».proof.Proof.GdnPre
public import proofs.«01_k».proof.Proof.GdnOut
public import proofs.«01_k».proof.Proof.GdnFinal
public import proofs.«01_k».proof.Proof.GdnStepRun

@[expose] public section

set_option maxRecDepth 16384

noncomputable section

open Idealize.ShloMosaic Idealize.SL.Sem Cert.Gdn

namespace Cert.Gdn

instance pre_facts : Cert.Pre_finite.Facts where
  bcast_S_S8x8192x512 := by decide
  reducesTo_S8x8192x512_S_d0_1_2 := by decide
  h_S_ := by decide
  bcast_S_S8x8192x256 := by decide
  reducesTo_S8x8192x256_S_d0_1_2 := by decide

section
variable (m : (ℓ : Loc Cert.ReferenceIdeal.nD Cert.ReferenceIdeal.τ Cert.ReferenceIdeal.sig) → Buf (Elt Ideal) ℓ)

/-- The reference's states, token by token. -/
def itR (c : Dev Cert.ReferenceIdeal.nD) : ℕ → Cert.ReferenceIdeal.Step.State Ideal
  | 0 => Cert.ReferenceIdeal.GdnStepRun.initState m c
  | n + 1 => Cert.ReferenceIdeal.Step.step n (itR c n)

theorem run_ref (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
      r.2.mem ((c.tc : Thread Cert.ReferenceIdeal.nD Cert.ReferenceIdeal.τ).loc Cert.ReferenceIdeal.main_v85)
        = Cert.ReferenceIdeal.Step.R_main_v85 (itR m c 8192) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10) :=
  Cert.ReferenceIdeal.GdnStepRun.run_iter (F := Ideal) m ρ (itR m) (fun _ => rfl) (fun _ _ => rfl)

/-- The reference's result of eleven arrays: the token sequence of states at its end, normalised and gated. -/
theorem ref_out [Cert.Pre_finite.Facts] (x0 x1 x2 x3 x4 x5 x6 x7 : A512) (x8 : A256) (x9 : AG)
    (x10 : FVec Ideal ⟨1, ![128]⟩ .f32)
    (h : Cert.Pre_finite.fn (F := Ideal) x0 x1 x2 x3 x4 x5 x6 x7 x8 x9 x10 = fun _ => 1#1)
    (it : ℕ → Cert.ReferenceIdeal.Step.State Ideal)
    (h0 : it 0 = Cert.ReferenceIdeal.Step.init x1 x2 x3 x4 x5 x6 x8 x9)
    (hs : ∀ n, it (n + 1) = Cert.ReferenceIdeal.Step.step n (it n)) :
    Cert.ReferenceIdeal.Step.R_main_v85 (it 8192) x0 x1 x7 x8 x10
      = fun j : (⟨3, ![8, 8192, 512]⟩ : Shape).Idx =>
        (Cert.ReferenceIdeal.GdnRef.XS x0 x1 x2 x3 x4 x5 x6 x8 x9).out x7 x10 (j 0) (j 1) (j 2) := by
  have hi := Cert.ReferenceIdeal.GdnRef.inv_iter (Cert.ReferenceIdeal.GdnRef.XS x0 x1 x2 x3 x4 x5 x6 x8 x9)
    (real_of_finite x0 x1 x2 x3 x4 x5 x6 x7 x8 x9 x10 h) it hs
    (by rw [h0]; exact Cert.ReferenceIdeal.GdnRef.inv_init x0 x1 x2 x3 x4 x5 x6 x8 x9) 8192 le_rfl
  funext j
  rw [eq_ix3 j]
  exact Cert.ReferenceIdeal.GdnRef.out_at _ _ x7 x10 hi (j 0) (j 1) (j 2)

end

end Cert.Gdn

end
-- ==== Proof.lean ====
/- The certificate's claims: the frames from the programs' runs, the value claims from the modules that read the kernels' results. -/
module

public import proofs.«01_k».proof.Proof.KernelFrame
public import proofs.«01_k».proof.Proof.KernelIdealFrame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Reference3Ideal.Run
public import proofs.«01_k».proof.Proof.Gen.Reference4Ideal.Run
public import Idealize.ShloMosaic.Adequacy
public import Idealize.ShloMosaic.Init
public import proofs.«01_k».proof.Proof.Value2
public import proofs.«01_k».proof.Proof.Value3
public import proofs.«01_k».proof.Proof.Value4
public import Idealize.ShloMosaic.Lib.Claim
public import proofs.«01_k».proof.Proof.GdnClaim

@[expose] public section

set_option maxRecDepth 16384

noncomputable section

namespace Cert.Proof

open Idealize.ShloMosaic Idealize.SL.Sem

theorem quiescent_Kernel : Cert.quiescent_Kernel := fun m g _ => Cert.Kernel.Gen.frame m g

theorem quiescent_KernelIdeal : Cert.quiescent_KernelIdeal := fun m g _ => Cert.KernelIdeal.Gen.frame m g

theorem quiescent_KernelIdeal_pre_finite [Cert.Pre_finite.Facts] : Cert.quiescent_KernelIdeal_pre_finite :=
  fun m g _ => Cert.KernelIdeal.Gen.frame m g

theorem quiescent_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem quiescent_ReferenceIdeal_pre_finite [Cert.Pre_finite.Facts] : Cert.quiescent_ReferenceIdeal_pre_finite := fun m g _ =>
  (θ_run Cert.ReferenceIdeal.defs _ _).mono (fun r h => ⟨fun c => (h c).2, sem_eq_zero_of_no_sems (by decide) r.2⟩)
    (Cert.ReferenceIdeal.Value.run (F := Ideal) m g)

theorem preserves_Kernel : Cert.preserves_Kernel_KernelIdeal := trivial

set_option maxHeartbeats 1600000 in
theorem algebraic_1 [Cert.Pre_finite.Facts] : Cert.algebraic_KernelIdeal_ReferenceIdeal_pre_finite := by
  pair_intro
  · run_from Cert.KernelIdeal.Gen.run_main m g
  · run_from Cert.Gdn.run_ref m' g'
    obtain ⟨_, e1, e2, e3, e4, e5, e6, _, e8, e9, _⟩ := hagree c
    refine (Cert.Gdn.ref_out _ _ (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ (m ((c.tc : Thread Cert.KernelIdeal.nD Cert.KernelIdeal.τ).loc Cert.KernelIdeal.main_arg9)) _ (hpre c) (Cert.Gdn.itR m' c) ?_ (fun _ => rfl)).trans (Cert.Gdn.final m c).symm
    show Cert.ReferenceIdeal.GdnStepRun.initState m' c = _
    dsimp only [Cert.ReferenceIdeal.GdnStepRun.initState]
    rw [e1, e2, e3, e4, e5, e6, e8, e9]

theorem quiescent_Kernel2 : Cert.quiescent_Kernel2 := fun m g _ => Cert.Kernel2.Gen.frame m g

theorem quiescent_Kernel2Ideal : Cert.quiescent_Kernel2Ideal := fun m g _ => Cert.Kernel2Ideal.Gen.frame m g

theorem quiescent_Reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem preserves_Kernel2 : Cert.preserves_Kernel2_Kernel2Ideal := trivial

set_option maxHeartbeats 1600000 in
theorem algebraic_2 : Cert.algebraic_Kernel2Ideal_Reference2Ideal := by
  pair_intro
  · run_from Cert.Kernel2Ideal.Gen.run_main m g
  · hlo_run
    exact (Cert.Kernel2Ideal.Value2.final m c).symm

theorem quiescent_Kernel3 : Cert.quiescent_Kernel3 := fun m g _ => Cert.Kernel3.Gen.frame m g

theorem quiescent_Kernel3Ideal : Cert.quiescent_Kernel3Ideal := fun m g _ => Cert.Kernel3Ideal.Gen.frame m g

theorem quiescent_Reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem preserves_Kernel3 : Cert.preserves_Kernel3_Kernel3Ideal := trivial

set_option maxHeartbeats 1600000 in
theorem algebraic_3 : Cert.algebraic_Kernel3Ideal_Reference3Ideal := by
  pair_intro
  · run_from Cert.Kernel3Ideal.Gen.run_main m g
  · hlo_run
    exact (Cert.Kernel3Ideal.Value3.final m c).symm

theorem quiescent_Kernel4 : Cert.quiescent_Kernel4 := fun m g _ => Cert.Kernel4.Gen.frame m g

theorem quiescent_Kernel4Ideal : Cert.quiescent_Kernel4Ideal := fun m g _ => Cert.Kernel4Ideal.Gen.frame m g

theorem quiescent_Reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem preserves_Kernel4 : Cert.preserves_Kernel4_Kernel4Ideal := trivial

set_option maxHeartbeats 1600000 in
theorem algebraic_4 : Cert.algebraic_Kernel4Ideal_Reference4Ideal := by
  pair_intro
  · run_from Cert.Kernel4Ideal.Gen.run_main m g
  · hlo_run
    exact (Cert.Kernel4Ideal.Value4.final m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Gdn.pre_facts,
   quiescent_Kernel,
   quiescent_KernelIdeal,
   quiescent_KernelIdeal_pre_finite,
   quiescent_ReferenceIdeal,
   quiescent_ReferenceIdeal_pre_finite,
   quiescent_Kernel2,
   quiescent_Kernel2Ideal,
   quiescent_Reference2Ideal,
   quiescent_Kernel3,
   quiescent_Kernel3Ideal,
   quiescent_Reference3Ideal,
   quiescent_Kernel4,
   quiescent_Kernel4Ideal,
   quiescent_Reference4Ideal,
   preserves_Kernel,
   algebraic_1,
   preserves_Kernel2,
   algebraic_2,
   preserves_Kernel3,
   algebraic_3,
   preserves_Kernel4,
   algebraic_4⟩

end Cert.Proof

end
